-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16x4096x256 : Shape := ⟨3, ![16, 4096, 256]⟩
abbrev S16 : Shape := ⟨1, ![16]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S16x4096x256 : S_.BroadcastsInDim S16x4096x256 (![] : Fin 0 → Fin S16x4096x256.rank)
  bcast_S_S16 : S_.BroadcastsInDim S16 (![] : Fin 0 → Fin S16.rank)
  bcast_S_S256 : S_.BroadcastsInDim S256 (![] : Fin 0 → Fin S256.rank)
  bcast_S_S64x256 : S_.BroadcastsInDim S64x256 (![] : Fin 0 → Fin S64x256.rank)

variable [Facts]

def fn {F : FTy → Type} [FloatOps F] (main_arg0 : FVec F S16x4096x256 .f32) (main_arg1 : IVec S16 32) (main_arg2 : FVec F S256 .f32) (main_arg3 : FVec F S256 .f32) (main_arg4 : FVec F S64x256 .f32) (main_arg5 : FVec F S64 .f32) : IVec S16x4096x256 1 × IVec S16 1 × IVec S256 1 × IVec S64x256 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 32 := constantI S_ 32 0#32
  let main_v3 : IVec S16 32 := broadcastInDim S16 ![] bcast_S_S16 main_c
  let main_v4 : IVec S16 1 := cmpi .sge main_arg1 main_v3
  let main_c_0 : IVec S_ 32 := constantI S_ 32 4096#32
  let main_v5 : IVec S16 32 := broadcastInDim S16 ![] bcast_S_S16 main_c_0
  let main_v6 : IVec S16 1 := cmpi .slt main_arg1 main_v5
  let main_v7 : IVec S16 1 := andi main_v4 main_v6
  let main_v8 : FVec F S256 .f32 := Host.absf main_arg2
  let main_cst_1 : FVec F S_ .f32 := constant S_ .f32 0x7F800000#32
  let main_v9 : FVec F S256 .f32 := broadcastInDim S256 ![] bcast_S_S256 main_cst_1
  let main_v10 : IVec S256 1 := cmpf .olt main_v8 main_v9
  let main_v11 : FVec F S64x256 .f32 := Host.absf main_arg4
  let main_cst_2 : FVec F S_ .f32 := constant S_ .f32 0x7F800000#32
  let main_v12 : FVec F S64x256 .f32 := broadcastInDim S64x256 ![] bcast_S_S64x256 main_cst_2
  let main_v13 : IVec S64x256 1 := cmpf .olt main_v11 main_v12
  (main_v2, main_v7, main_v10, main_v13)
-- ==== Kernel.lean ====
abbrev S16x4096x256 : Shape := ⟨3, ![16, 4096, 256]⟩
abbrev S16 : Shape := ⟨1, ![16]⟩
abbrev S256 : Shape := ⟨1, ![256]⟩
abbrev S64x256 : Shape := ⟨2, ![64, 256]⟩
abbrev S64 : Shape := ⟨1, ![64]⟩
abbrev S16x64x4096 : Shape := ⟨3, ![16, 64, 4096]⟩
abbrev S1x4096x256 : Shape := ⟨3, ![1, 4096, 256]⟩
abbrev S1x64x4096 : Shape := ⟨3, ![1, 64, 4096]⟩
abbrev S8x256 : Shape := ⟨2, ![8, 256]⟩
abbrev S64x8 : Shape := ⟨2, ![64, 8]⟩
abbrev S1 : Shape := ⟨1, ![1]⟩
abbrev S4096x256 : Shape := ⟨2, ![4096, 256]⟩
abbrev S1x4096 : Shape := ⟨2, ![1, 4096]⟩
abbrev S1x256 : Shape := ⟨2, ![1, 256]⟩
abbrev S1x64 : Shape := ⟨2, ![1, 64]⟩
abbrev S1x1x64 : Shape := ⟨3, ![1, 1, 64]⟩
abbrev S1x1x1 : Shape := ⟨3, ![1, 1, 1]⟩
abbrev S6x64 : Shape := ⟨2, ![6, 64]⟩
abbrev S8x64 : Shape := ⟨2, ![8, 64]⟩
abbrev S1x1024x256 : Shape := ⟨3, ![1, 1024, 256]⟩
abbrev S1024x256 : Shape := ⟨2, ![1024, 256]⟩
abbrev S64x1024 : Shape := ⟨2, ![64, 1024]⟩
abbrev S64x1 : Shape := ⟨2, ![64, 1]⟩
abbrev S1024 : Shape := ⟨1, ![1024]⟩
abbrev S1x1024 : Shape := ⟨2, ![1, 1024]⟩
abbrev S1x64x1024 : Shape := ⟨3, ![1, 64, 1024]⟩
abbrev S16x4096x64 : Shape := ⟨3, ![16, 4096, 64]⟩

abbrev nBuf : Space → Nat
  | .hbm => 7
  | .vmem => 12
  | .smem => 1
  | _ => 0

abbrev bufTy : (tb : Table) → Fin (tcTables nBuf tb) → BufTy
  | .hbm, ⟨0, _⟩ => ⟨S16x4096x256, .f32⟩
  | .hbm, ⟨1, _⟩ => ⟨S256, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S16x64x4096, .f32⟩
  | .hbm, ⟨6, _⟩ => ⟨S16x4096x64, .f32⟩
  | .local _ .vmem, ⟨0, _⟩ => ⟨S1x4096x256, .f32⟩
  | .local _ .vmem, ⟨1, _⟩ => ⟨S1x4096x256, .f32⟩
  | .local _ .vmem, ⟨2, _⟩ => ⟨S256, .f32⟩
  | .local _ .vmem, ⟨3, _⟩ => ⟨S256, .f32⟩
  | .local _ .vmem, ⟨4, _⟩ => ⟨S64x256, .f32⟩
  | .local _ .vmem, ⟨5, _⟩ => ⟨S64, .f32⟩
  | .local _ .vmem, ⟨6, _⟩ => ⟨S1x64x4096, .f32⟩
  | .local _ .vmem, ⟨7, _⟩ => ⟨S1x64x4096, .f32⟩
  | .local _ .vmem, ⟨8, _⟩ => ⟨S16x4096x256, .bf16⟩
  | .local _ .vmem, ⟨9, _⟩ => ⟨S8x256, .f32⟩
  | .local _ .vmem, ⟨10, _⟩ => ⟨S64x256, .bf16⟩
  | .local _ .vmem, ⟨11, _⟩ => ⟨S64x8, .f32⟩
  | .local _ .smem, ⟨0, _⟩ => ⟨S16, .i32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v4 : BitVec 32 := Scalar.extui v0
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let v12 : Index := Scalar.indexCast arg0
  ![v12.toNat]
def k0_off2 (i : grid0.Coords) : Fin 3 → Nat :=
  let arg0 : BitVec 32 := BitVec.ofNat 32 (i 0).val
  let v17 : Index := Scalar.indexCast arg0
  let c0_6 : Index := 0#32
  let c0_7 : Index := 0#32
  ![v17.toNat, 0, 0]
def k0_cond4 (i : grid0.Coords) : BitVec 1 :=
  let arg0 : BitVec 32 := BitVec.ofNat 32 (i 0).val
  let c15_i32 : BitVec 32 := 15#32
  let v6 : BitVec 1 := Scalar.cmpi .eq arg0 c15_i32
  let v7 : BitVec 32 := Scalar.extui v6
  let c0_i32_2 : BitVec 32 := 0#32
  let v8 : BitVec 1 := Scalar.cmpi .ne v7 c0_i32_2
  v8

@[reducible] def k0_t1_loop : Scf.Loop 32 :=
  let c0_i32_5 : BitVec 32 := 0#32
  let c16_i32_6 : BitVec 32 := 16#32
  let v12 : BitVec 32 := Scalar.addi c0_i32_5 c16_i32_6
  let c1_i32 : BitVec 32 := 1#32
  ⟨c0_i32_5, v12, c1_i32⟩
def k0_off3 (k0_t1 : Fin k0_t1_loop.trips) : Fin 1 → Nat :=
  let c0_i32_5 : BitVec 32 := 0#32
  let c1_i32 : BitVec 32 := 1#32
  let arg12 : BitVec 32 := Scf.iv c0_i32_5 c1_i32 k0_t1
  let v61 : Index := Scalar.indexCast arg12
  ![v61.toNat]
def k0_cond5 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v9 : BitVec 1 := Scalar.xori v0 v_true
  let v10 : BitVec 32 := Scalar.extui v9
  let c0_i32_3 : BitVec 32 := 0#32
  let v11 : BitVec 1 := Scalar.cmpi .ne v10 c0_i32_3
  v11

def k0_off4 (i : grid0.Coords) : Fin 1 → Nat :=
  let arg0 : BitVec 32 := BitVec.ofNat 32 (i 0).val
  let c16_i32_4 : BitVec 32 := 16#32
  let v12 : BitVec 32 := Scalar.subi arg0 c16_i32_4
  let v13 : Index := Scalar.indexCast v12
  ![v13.toNat]
def k0_off5 (i : grid0.Coords) : Fin 3 → Nat :=
  let arg0 : BitVec 32 := BitVec.ofNat 32 (i 0).val
  let c16_i32_4 : BitVec 32 := 16#32
  let v12 : BitVec 32 := Scalar.subi arg0 c16_i32_4
  let v40 : Index := Scalar.indexCast v12
  let c0_19 : Index := 0#32
  let c0_20 : Index := 0#32
  ![v40.toNat, 0, 0]
def k0_off6 (i : grid0.Coords) : Fin 3 → Nat :=
  let arg0 : BitVec 32 := BitVec.ofNat 32 (i 0).val
  let c16_i32_4 : BitVec 32 := 16#32
  let v12 : BitVec 32 := Scalar.subi arg0 c16_i32_4
  let v40 : Index := Scalar.indexCast v12
  let c1024 : Index := 1024#32
  let c0_19 : Index := 0#32
  ![v40.toNat, 1024, 0]
def k0_off7 (i : grid0.Coords) : Fin 3 → Nat :=
  let arg0 : BitVec 32 := BitVec.ofNat 32 (i 0).val
  let c16_i32_4 : BitVec 32 := 16#32
  let v12 : BitVec 32 := Scalar.subi arg0 c16_i32_4
  let v40 : Index := Scalar.indexCast v12
  let c2048 : Index := 2048#32
  let c0_19 : Index := 0#32
  ![v40.toNat, 2048, 0]
def k0_off8 (i : grid0.Coords) : Fin 3 → Nat :=
  let arg0 : BitVec 32 := BitVec.ofNat 32 (i 0).val
  let c16_i32_4 : BitVec 32 := 16#32
  let v12 : BitVec 32 := Scalar.subi arg0 c16_i32_4
  let v40 : Index := Scalar.indexCast v12
  let c3072 : Index := 3072#32
  let c0_19 : Index := 0#32
  ![v40.toNat, 3072, 0]
def k0_cond6 (v14 : BitVec 32) : BitVec 1 :=
  let c0_i32_5 : BitVec 32 := 0#32
  let v15 : BitVec 1 := Scalar.cmpi .sgt v14 c0_i32_5
  let v16 : BitVec 32 := Scalar.extui v15
  let c0_i32_6 : BitVec 32 := 0#32
  let v17 : BitVec 1 := Scalar.cmpi .ne v16 c0_i32_6
  v17

def k0_cond7 (v14 : BitVec 32) : BitVec 1 :=
  let c0_i32_7 : BitVec 32 := 0#32
  let v18 : BitVec 1 := Scalar.cmpi .sle v14 c0_i32_7
  let v19 : BitVec 32 := Scalar.extui v18
  let c0_i32_8 : BitVec 32 := 0#32
  let v20 : BitVec 1 := Scalar.cmpi .ne v19 c0_i32_8
  v20

def k0_cond8 (v14 : BitVec 32) : BitVec 1 :=
  let c1024_i32 : BitVec 32 := 1024#32
  let v21 : BitVec 1 := Scalar.cmpi .sgt v14 c1024_i32
  let v22 : BitVec 32 := Scalar.extui v21
  let c0_i32_9 : BitVec 32 := 0#32
  let v23 : BitVec 1 := Scalar.cmpi .ne v22 c0_i32_9
  v23

def k0_cond9 (v14 : BitVec 32) : BitVec 1 :=
  let c1024_i32_10 : BitVec 32 := 1024#32
  let v24 : BitVec 1 := Scalar.cmpi .sle v14 c1024_i32_10
  let v25 : BitVec 32 := Scalar.extui v24
  let c0_i32_11 : BitVec 32 := 0#32
  let v26 : BitVec 1 := Scalar.cmpi .ne v25 c0_i32_11
  v26

def k0_cond10 (v14 : BitVec 32) : BitVec 1 :=
  let c2048_i32 : BitVec 32 := 2048#32
  let v27 : BitVec 1 := Scalar.cmpi .sgt v14 c2048_i32
  let v28 : BitVec 32 := Scalar.extui v27
  let c0_i32_12 : BitVec 32 := 0#32
  let v29 : BitVec 1 := Scalar.cmpi .ne v28 c0_i32_12
  v29

def k0_cond11 (v14 : BitVec 32) : BitVec 1 :=
  let c2048_i32_13 : BitVec 32 := 2048#32
  let v30 : BitVec 1 := Scalar.cmpi .sle v14 c2048_i32_13
  let v31 : BitVec 32 := Scalar.extui v30
  let c0_i32_14 : BitVec 32 := 0#32
  let v32 : BitVec 1 := Scalar.cmpi .ne v31 c0_i32_14
  v32

def k0_cond12 (v14 : BitVec 32) : BitVec 1 :=
  let c3072_i32 : BitVec 32 := 3072#32
  let v33 : BitVec 1 := Scalar.cmpi .sgt v14 c3072_i32
  let v34 : BitVec 32 := Scalar.extui v33
  let c0_i32_15 : BitVec 32 := 0#32
  let v35 : BitVec 1 := Scalar.cmpi .ne v34 c0_i32_15
  v35

def k0_cond13 (v14 : BitVec 32) : BitVec 1 :=
  let c3072_i32_16 : BitVec 32 := 3072#32
  let v36 : BitVec 1 := Scalar.cmpi .sle v14 c3072_i32_16
  let v37 : BitVec 32 := Scalar.extui v36
  let c0_i32_17 : BitVec 32 := 0#32
  let v38 : BitVec 1 := Scalar.cmpi .ne v37 c0_i32_17
  v38

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x4096x256 : Shape := ⟨3, ![16, 4096, 256]⟩
abbrev S16 : Shape := ⟨1, ![16]⟩
abbrev S256 : Shape := ⟨1, ![256]⟩
abbrev S64x256 : Shape := ⟨2, ![64, 256]⟩
abbrev S64 : Shape := ⟨1, ![64]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S16x4096x1 : Shape := ⟨3, ![16, 4096, 1]⟩
abbrev S_ : Shape := ⟨0, ![]⟩
abbrev S1x1x256 : Shape := ⟨3, ![1, 1, 256]⟩
abbrev S256x64 : Shape := ⟨2, ![256, 64]⟩
abbrev S16x4096x64 : Shape := ⟨3, ![16, 4096, 64]⟩
abbrev S1x1x64 : Shape := ⟨3, ![1, 1, 64]⟩

abbrev nBuf : Space → Nat
  | .hbm => 67
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16, .i32⟩
  | .hbm, ⟨2, _⟩ => ⟨S256, .f32⟩
  | .hbm, ⟨3, _⟩ => ⟨S256, .f32⟩
  | .hbm, ⟨4, _⟩ => ⟨S64x256, .f32⟩
  | .hbm, ⟨5, _⟩ => ⟨S64, .f32⟩
  | .hbm, ⟨6, _⟩ => ⟨S4096, .i32⟩
  | .hbm, ⟨7, _⟩ => ⟨S1x4096, .i32⟩
  | .hbm, ⟨8, _⟩ => ⟨S16x1, .i32⟩
  | .hbm, ⟨9, _⟩ => ⟨S16x4096, .i32⟩
  | .hbm, ⟨10, _⟩ => ⟨S16x4096, .i32⟩
  | .hbm, ⟨11, _⟩ => ⟨S16x4096, .i1⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x4096x256, .f32⟩
  | .hbm, ⟨19, _⟩ => ⟨S16x4096x256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x1x256, .f32⟩
  | .hbm, ⟨25, _⟩ => ⟨S16x4096x256, .f32⟩
  | .hbm, ⟨26, _⟩ => ⟨S16x4096x256, .f32⟩
  | .hbm, ⟨27, _⟩ => ⟨S16x4096x256, .f32⟩
  | .hbm, ⟨28, _⟩ => ⟨S16x4096x256, .f32⟩
  | .hbm, ⟨29, _⟩ => ⟨S16x4096x256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S1x1x256, .f32⟩
  | .hbm, ⟨35, _⟩ => ⟨S16x4096x256, .f32⟩
  | .hbm, ⟨36, _⟩ => ⟨S16x4096x256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S1x1x256, .f32⟩
  | .hbm, ⟨42, _⟩ => ⟨S16x4096x256, .f32⟩
  | .hbm, ⟨43, _⟩ => ⟨S16x4096x256, .f32⟩
  | .hbm, ⟨44, _⟩ => ⟨S1x1x256, .f32⟩
  | .hbm, ⟨45, _⟩ => ⟨S16x4096x256, .f32⟩
  | .hbm, ⟨46, _⟩ => ⟨S16x4096x256, .f32⟩
  | .hbm, ⟨47, _⟩ => ⟨S1x1x256, .f32⟩
  | .hbm, ⟨48, _⟩ => ⟨S16x4096x256, .f32⟩
  | .hbm, ⟨49, _⟩ => ⟨S16x4096x256, .f32⟩
  | .hbm, ⟨50, _⟩ => ⟨S16x4096x256, .f32⟩
  | .hbm, ⟨51, _⟩ => ⟨S16x4096x256, .f32⟩
  | .hbm, ⟨52, _⟩ => ⟨S256x64, .f32⟩
  | .hbm, ⟨53, _⟩ => ⟨S16x4096x64, .f32⟩
  | .hbm, ⟨54, _⟩ => ⟨S1x1x64, .f32⟩
  | .hbm, ⟨55, _⟩ => ⟨S16x4096x64, .f32⟩
  | .hbm, ⟨56, _⟩ => ⟨S16x4096x64, .f32⟩
  | .hbm, ⟨57, _⟩ => ⟨S16x4096x64, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S_, .f32⟩
  | .hbm, ⟨62, _⟩ => ⟨S16x4096x1, .f32⟩
  | .hbm, ⟨63, _⟩ => ⟨S16x4096x1, .f32⟩
  | .hbm, ⟨64, _⟩ => ⟨S16x4096x1, .f32⟩
  | .hbm, ⟨65, _⟩ => ⟨S16x4096x64, .f32⟩
  | .hbm, ⟨66, _⟩ => ⟨S16x4096x64, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Proof.Owns.lean ====
/-
  Loads and stores of a memref owned at a value.  A load continues at the value read at the rectangle's coordinates; a
  store leaves the memref owned at the value with the rectangle's part replaced (`Rect.overlay`).
-/
module

public import Idealize.ShloMosaic.Lib.Tactic
public import Idealize.ShloMosaic.Lib.Memref
public import Idealize.ShloMosaic.Lib.Pipeline.Sound

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The rectangle at offset zero of the shape's own sizes names every index by itself. -/
theorem emb_unit_zero {s : Shape} {off : Fin s.rank → Nat} (h : off = fun _ => 0) (inb : ∀ a, off a + s.size a ≤ s.size a)
    (x : s.Idx) : (Rect.unit off s.size inb).emb x = x := by
  subst h; funext a; apply Fin.ext; simp [Rect.unit, Rect.emb]

/-- Replacing all of a value's indices leaves only the new value. -/
theorem overlay_unit_zero {s : Shape} {α : Type} {off : Fin s.rank → Nat} (h : off = fun _ => 0)
    (inb : ∀ a, off a + s.size a ≤ s.size a) (X G : s.Idx → α) :
    (Rect.unit off s.size inb).overlay X G = G := by
  funext x
  have := Rect.overlay_emb (Rect.unit off s.size inb) X G x
  rwa [emb_unit_zero h] at this

section Rules

variable {nD : Nat} {τ : Topo} {sig : RefSig} {Val : EltTy → Type} {Λ : Labels}
  {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
  {α : Type} {Q : α → sProp (MT nD τ sig Ix Val Name U Lvl)} {s : Shape} {e : EltTy}

/-- A load through a rectangle of a memref owned at `X`: the program continues at `X` on the rectangle. -/
theorem owns_load_rect {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun x => X (r.emb x))) Q)
        -∗ wp frame (wpE defs 𝒱 c bd) E (.op (.load m r.toLoadRect hl) k) Q) := by
  unfold owns
  iintro ⟨%f, %hf, H⟩ Hk
  subst hf
  have hS : m.view.setOn r.toLoadRect.set ⊆ m.view.set := by
    rw [← View.setOn_univ]; exact Finset.map_subset_map.mpr (Finset.subset_univ _)
  iapply (wp_load 𝒱 c bd E (m := m) (hl := hl) (S := m.view.set) hS) $$ H
  iintro H
  iapply Hk
  iexists f
  isplitr; · ipureintro; rfl
  iexact H

/-- A store through a rectangle of a memref owned at `X`: afterwards it is owned at `X` with the rectangle's part replaced
    by what was stored. -/
theorem owns_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (S := m.view.set) (by
    rw [View.setOn_univ]; exact View.set_slice_subset m.view r)) $$ H
  iintro H
  iapply Hk
  iexists _
  isplitr; rotate_left
  · iexact H
  · ipureintro
    funext y
    by_cases hy : y ∈ r.set
    · rw [← Rect.map_emb_univ, Finset.mem_map] at hy
      obtain ⟨x, -, rfl⟩ := hy
      rw [Rect.overlay_emb]
      exact View.read_slice_write_emb r f w (Finset.mem_univ x)
    · rw [Rect.overlay_of_not_mem _ _ _ hy]
      exact View.read_slice_write_of_not_mem r f w _ (by rwa [Rect.map_emb_univ])

/-- A load of a whole memref, its rectangle at offset zero. -/
theorem owns_load_all {cs : CoreSpace} {m : Memref sig c.2.kind cs s e} {off : Fin s.rank → Nat} (h : off = fun _ => 0)
    {inb : ∀ a, off a + s.size a ≤ s.size a} {hl : m.view.LoadsAt (Rect.unit off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have H := owns_load_rect (defs := defs) 𝒱 c bd E (Q := Q) (m := m) (hl := hl) (k := k) (q := q) (X := X)
  rwa [show (fun x => X ((Rect.unit off s.size inb).emb x)) = X from funext fun x => by rw [emb_unit_zero h]] at H

/-- A store of a whole memref, its rectangle at offset zero. -/
theorem owns_store_all {cs : CoreSpace} {m : Memref sig c.2.kind cs s e} {off : Fin s.rank → Nat} (h : off = fun _ => 0)
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  have H := owns_store (defs := defs) 𝒱 c bd E (Q := Q) (m := m) (r := Rect.unit off s.size inb) (hx := hx) (hm := hm) (w := w) (k := k) (X := X)
  rwa [overlay_unit_zero h] at H

end Rules

end Cert.Proof

end
-- ==== Proof.Body.lean ====
/-
  One grid point of the kernel, from memrefs owned at values to memrefs owned at values.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Owns

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The first point is this one. -/
abbrev cond1 (i : grid0.Coords) : BitVec 1 :=
  Scalar.cmpi .ne (Scalar.extui (Scalar.cmpi .eq (BitVec.ofNat 32 (i 0).val) 0#32)) 0#32
/-- The sequence has a valid row. -/
abbrev condW (w : BitVec 32) : BitVec 1 := Scalar.cmpi .ne (Scalar.extui (Scalar.cmpi .sgt w 0#32)) 0#32

/-- Rows 0 and 1 of the accumulator. -/
abbrev row0 : Rect S8x256 := Rect.unit (s := S8x256) ![0, 0] S1x256.size inb_S8x256_S1x256_0_0
abbrev row1 : Rect S8x256 := Rect.unit (s := S8x256) ![1, 0] S1x256.size inb_S8x256_S1x256_1_0

/-- The accumulator after a point of the first phase: its two rows gain the masked sums of the block `X` of a sequence of
    `w` valid rows. -/
def accStep (w : BitVec 32) (X : S1x4096x256.Idx → Elt F .f32) (f : S8x256.Idx → Elt F .f32) : S8x256.Idx → Elt F .f32 :=
  if condW w = 1#1 then
    row1.overlay (row0.overlay f (k0_pay5 w X (fun x => f (row0.emb x))))
      (k0_pay6 w X (fun x => row0.overlay f (k0_pay5 w X (fun x => f (row0.emb x))) (row1.emb x)))
  else f

theorem z2 : (![0, 0] : Fin 2 → Nat) = fun _ => 0 := by decide
theorem z3 : (![0, 0, 0] : Fin 3 → Nat) = fun _ => 0 := by decide
theorem z1 : (![0] : Fin 1 → Nat) = fun _ => 0 := by decide

/-- The index of word `n` of the table of lengths. -/
def idx16 (n : Nat) : S16.Idx := fun a => ⟨n % 16, by fin_cases a; exact Nat.mod_lt _ (by decide)⟩

/-- The one index of a word, as a load of a word names it. -/
abbrev i0 : S1.Idx := Shape.Idx.first (s := S1) (numel1_S1.symm ▸ Nat.one_pos)

theorem off1_eq (i : grid0.Coords) (h : k0_cond2 i = 1#1) (inb : ∀ a, (k0_off1 i) a + S1.size a ≤ S16.size a) :
    (Rect.unit (s := S16) (k0_off1 i) S1.size inb).emb i0 = idx16 (i 0).val := by
  revert i; decide

theorem off4_eq (i : grid0.Coords) (h : k0_cond5 i = 1#1) (inb : ∀ a, (k0_off4 i) a + S1.size a ≤ S16.size a) :
    (Rect.unit (s := S16) (k0_off4 i) S1.size inb).emb i0 = idx16 ((i 0).val - 16) := by
  revert i; decide

theorem off3_eq (k : Fin k0_t1_loop.trips) (inb : ∀ a, (k0_off3 k) a + S1.size a ≤ S16.size a) :
    (Rect.unit (s := S16) (k0_off3 k) S1.size inb).emb i0 = idx16 k.val := by
  revert k; decide

theorem trips_eq : k0_t1_loop.trips = 16 := by decide

/-- The sum of the first `n` lengths, as words. -/
def wsum (T : S16.Idx → BitVec 32) : Nat → BitVec 32
  | 0 => 0#32
  | n + 1 => Scalar.addi (wsum T n) (T (idx16 n))

/-- A condition the kernel tests holds exactly when its comparison does. -/
theorem ne_ext (b : BitVec 1) : Scalar.cmpi .ne (Scalar.extui b : BitVec 32) 0#32 = b := by
  revert b; decide

/-- Of "more than" and "at most" exactly one holds. -/
theorem sle_iff (w k : BitVec 32) :
    Scalar.cmpi .ne (Scalar.extui (Scalar.cmpi .sle w k) : BitVec 32) 0#32 = 1#1
      ↔ ¬ Scalar.cmpi .ne (Scalar.extui (Scalar.cmpi .sgt w k) : BitVec 32) 0#32 = 1#1 := by
  rw [ne_ext, ne_ext]
  simp only [Scalar.cmpi, IntOp.cmpi, BitVec.sle_eq_not_slt]
  cases k.slt w <;> decide

/-- The four quarters of a block of output columns. -/
abbrev rq0 : Rect S1x64x4096 := Rect.unit (s := S1x64x4096) ![0, 0, 0] S1x64x1024.size inb_S1x64x4096_S1x64x1024_0_0_0
abbrev rq1 : Rect S1x64x4096 := Rect.unit (s := S1x64x4096) ![0, 0, 1024] S1x64x1024.size inb_S1x64x4096_S1x64x1024_0_0_1024
abbrev rq2 : Rect S1x64x4096 := Rect.unit (s := S1x64x4096) ![0, 0, 2048] S1x64x1024.size inb_S1x64x4096_S1x64x1024_0_0_2048
abbrev rq3 : Rect S1x64x4096 := Rect.unit (s := S1x64x4096) ![0, 0, 3072] S1x64x1024.size inb_S1x64x4096_S1x64x1024_0_0_3072

/-- The two columns of the auxiliary buffer. -/
abbrev col0 : Rect S64x8 := Rect.unit (s := S64x8) ![0, 0] S64x1.size inb_S64x8_S64x1_0_0
abbrev col1 : Rect S64x8 := Rect.unit (s := S64x8) ![0, 1] S64x1.size inb_S64x8_S64x1_0_1

/-- What a point of the second phase stores in each quarter: the projected rows, or the one column of a row that is not
    valid when none of the quarter's rows is. -/
def quarter0 (w : BitVec 32) (f2 : S64x256.Idx → Elt F .bf16) (x : S1x1024x256.Idx → Elt F .bf16) (f3 : S64x8.Idx → Elt F .f32) :
    S1x64x1024.Idx → Elt F .f32 :=
  if k0_cond6 w = 1#1 then k0_pay8 w f2 x (fun y => f3 (col0.emb y)) (fun y => f3 (col1.emb y)) else k0_pay9 (fun y => f3 (col1.emb y))
def quarter1 (w : BitVec 32) (f2 : S64x256.Idx → Elt F .bf16) (x : S1x1024x256.Idx → Elt F .bf16) (f3 : S64x8.Idx → Elt F .f32) :
    S1x64x1024.Idx → Elt F .f32 :=
  if k0_cond8 w = 1#1 then k0_pay10 w f2 x (fun y => f3 (col0.emb y)) (fun y => f3 (col1.emb y)) else k0_pay11 (fun y => f3 (col1.emb y))
def quarter2 (w : BitVec 32) (f2 : S64x256.Idx → Elt F .bf16) (x : S1x1024x256.Idx → Elt F .bf16) (f3 : S64x8.Idx → Elt F .f32) :
    S1x64x1024.Idx → Elt F .f32 :=
  if k0_cond10 w = 1#1 then k0_pay12 w f2 x (fun y => f3 (col0.emb y)) (fun y => f3 (col1.emb y)) else k0_pay13 (fun y => f3 (col1.emb y))
def quarter3 (w : BitVec 32) (f2 : S64x256.Idx → Elt F .bf16) (x : S1x1024x256.Idx → Elt F .bf16) (f3 : S64x8.Idx → Elt F .f32) :
    S1x64x1024.Idx → Elt F .f32 :=
  if k0_cond12 w = 1#1 then k0_pay14 w f2 x (fun y => f3 (col0.emb y)) (fun y => f3 (col1.emb y)) else k0_pay15 (fun y => f3 (col1.emb y))

end Cert.Proof

end
-- ==== Proof.Phase1.lean ====
/-
  One grid point of the first phase: the block kept and its masked sums accumulated; at the last point, the scaled weights
  and the auxiliary columns stored.
-/
module

public import proofs.«01_k».proof.Proof.Body

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

variable (𝒱₀ : Variants) (c : Dev nD)

set_option maxHeartbeats 4000000 in
/-- A point of the first phase. -/
theorem phase1 (i : grid0.Coords)
    (m1 : Memref sig .tc .smem S16 .i32) (h1 : m1.IsWhole) (m2 : Memref sig .tc .vmem S1x4096x256 .f32) (h2 : m2.IsWhole)
    (m3 : Memref sig .tc .vmem S256 .f32) (h3 : m3.IsWhole) (m4 : Memref sig .tc .vmem S256 .f32) (h4 : m4.IsWhole)
    (m5 : Memref sig .tc .vmem S64x256 .f32) (h5 : m5.IsWhole) (m6 : Memref sig .tc .vmem S64 .f32) (h6 : m6.IsWhole)
    (m7 : Memref sig .tc .vmem S1x64x4096 .f32) (h7 : m7.IsWhole) (m8 : Memref sig .tc .vmem S16x4096x256 .bf16) (h8 : m8.IsWhole)
    (m9 : Memref sig .tc .vmem S8x256 .f32) (h9 : m9.IsWhole) (m10 : Memref sig .tc .vmem S64x256 .bf16) (h10 : m10.IsWhole)
    (m11 : Memref sig .tc .vmem S64x8 .f32) (h11 : m11.IsWhole)
    (q : PosShare TreeShare) (T : S16.Idx → Elt F .i32) (X : S1x4096x256.Idx → Elt F .f32)
    (f0 : S16x4096x256.Idx → Elt F .bf16) (f1 : S8x256.Idx → Elt F .f32) (gam bet : S256.Idx → Elt F .f32)
    (Wt : S64x256.Idx → Elt F .f32) (b : S64.Idx → Elt F .f32) (f2 : S64x256.Idx → Elt F .bf16) (f3 : S64x8.Idx → Elt F .f32)
    (hc2 : k0_cond2 i = 1#1) (hc5 : ¬ k0_cond5 i = 1#1)
    (g1 : S8x256.Idx → Elt F .f32) (hg1 : g1 = accStep (T (idx16 (i 0).val)) X (if cond1 i = 1#1 then k0_pay1 else f1))
    (g2 : S64x256.Idx → Elt F .bf16)
    (hg2 : g2 = if k0_cond4 i = 1#1 then k0_pay19 (wsum T 16) (fun x => g1 (row0.emb x)) (fun x => g1 (row1.emb x)) gam Wt else f2)
    (g3 : S64x8.Idx → Elt F .f32)
    (hg3 : g3 = if k0_cond4 i = 1#1 then k0_pay7 (k0_pay20 b) (k0_pay21 (wsum T 16) (fun x => g1 (row0.emb x)) (fun x => g1 (row1.emb x)) gam bet b Wt) (k0_pay22 b) else f3)
    (K : PUnit → sProp (MT nD τ sig Unit (Elt F) ℕ (UR sig nD τ) ℕ)) :
    iprop((owns (c : Thread nD τ) m1 q T ∗ owns (c : Thread nD τ) m2 fullShare X ∗ owns (c : Thread nD τ) m3 fullShare gam ∗ owns (c : Thread nD τ) m4 fullShare bet ∗ owns (c : Thread nD τ) m5 fullShare Wt ∗ owns (c : Thread nD τ) m6 fullShare b
          ∗ owns (c : Thread nD τ) m8 fullShare f0 ∗ owns (c : Thread nD τ) m9 fullShare f1 ∗ owns (c : Thread nD τ) m10 fullShare f2 ∗ owns (c : Thread nD τ) m11 fullShare f3)
        ∗ ((owns (c : Thread nD τ) m1 q T ∗ owns (c : Thread nD τ) m2 fullShare X ∗ owns (c : Thread nD τ) m3 fullShare gam ∗ owns (c : Thread nD τ) m4 fullShare bet ∗ owns (c : Thread nD τ) m5 fullShare Wt ∗ owns (c : Thread nD τ) m6 fullShare b
          ∗ owns (c : Thread nD τ) m8 fullShare ((Rect.unit (s := S16x4096x256) (k0_off2 i) S1x4096x256.size (k0_off2_inb i hc2)).overlay f0 (k0_pay3 X)) ∗ owns (c : Thread nD τ) m9 fullShare g1 ∗ owns (c : Thread nD τ) m10 fullShare g2 ∗ owns (c : Thread nD τ) m11 fullShare g3)
          -∗ K ⟨⟩))
      ⊢ wp frame (wpE (defs₀ (F := F)) 𝒱₀ (c : Thread nD τ) none) Set.univ
          (cc0__fused_kernel i m1 h1 m2 h2 m3 h3 m4 h4 m5 h5 m6 h6 m7 h7 m8 h8 m9 h9 m10 h10 m11 h11) K := by
  simp only [cc0__fused_kernel_eq_skeleton]; unfold cc0__fused_kernel_skel
  simp only [k0_part1_eq_skeleton]; unfold k0_part1_skel
  by_cases hA : cond1 i = 1#1 <;> by_cases hW : condW (T (idx16 (i 0).val)) = 1#1 <;> by_cases hB : k0_cond4 i = 1#1
  all_goals
    simp only [dif_pos hc2, dif_neg hc5, hA, hB, ↓reduceIte, ↓reduceDIte, smemLoad, smemLoadElt, Prog.lift, Prog.bind_op, Prog.bind_ret, Prog.pure_eq_ret, Prog.bind_assoc]
    iintro ⟨⟨H1, H2, H3, H4, H5, H6, H8, H9, H10, H11⟩, Hk⟩
  all_goals
    -- the accumulator zeroed, at the first point
    try
      iapply (owns_load_all 𝒱₀ (c : Thread nD τ) none Set.univ z2) $$ H9; iintro H9
      iapply (owns_store_all 𝒱₀ (c : Thread nD τ) none Set.univ z2) $$ H9; iintro H9
    -- the block, kept
    iapply (owns_load_rect 𝒱₀ (c : Thread nD τ) none Set.univ) $$ H1; iintro H1
    iapply (owns_load_all 𝒱₀ (c : Thread nD τ) none Set.univ z3) $$ H2; iintro H2
    iapply (owns_load_rect 𝒱₀ (c : Thread nD τ) none Set.univ) $$ H8; iintro H8
    iapply (owns_store 𝒱₀ (c : Thread nD τ) none Set.univ) $$ H8; iintro H8
    simp only [off1_eq i hc2, hW, ↓reduceIte]
    -- its masked sums
    try
      iapply (owns_load_rect 𝒱₀ (c : Thread nD τ) none Set.univ) $$ H9; iintro H9
      iapply (owns_load_rect 𝒱₀ (c : Thread nD τ) none Set.univ) $$ H9; iintro H9
      iapply (owns_store 𝒱₀ (c : Thread nD τ) none Set.univ) $$ H9; iintro H9
      iapply (owns_load_rect 𝒱₀ (c : Thread nD τ) none Set.univ) $$ H9; iintro H9
      iapply (owns_load_rect 𝒱₀ (c : Thread nD τ) none Set.univ) $$ H9; iintro H9
      iapply (owns_store 𝒱₀ (c : Thread nD τ) none Set.univ) $$ H9; iintro H9
  all_goals
    -- at the last point of the phase: the lengths summed, the scaled weights and the auxiliary columns stored
    try
      iapply (Scf.wp_for_bind frame (wpE (defs₀ (F := F)) 𝒱₀ (c : Thread nD τ) none) Set.univ _ _ _ _ _ _
        (fun k (acc : BitVec 32) => iprop(owns (c : Thread nD τ) m1 q T ∗ ⌜acc = wsum T k⌝)) ?trip) $$ [H1]
      case trip =>
        intro k acc
        unfold k0_t1_body
        simp only [smemLoad, smemLoadElt, Prog.lift, Prog.bind_op, Prog.bind_ret, Prog.pure_eq_ret, Prog.bind_assoc]
        iintro ⟨H1, %hacc⟩
        iapply (owns_load_rect 𝒱₀ (c : Thread nD τ) none Set.univ) $$ H1; iintro H1
        simp only [wp_ret]; imodintro
        isplitl [H1]; · iexact H1
        ipureintro
        rw [hacc, wsum, off3_eq k]
      · isplitl [H1]; · iexact H1
        ipureintro; rfl
      iintro %acc ⟨H1, %hacc⟩
      rw [show Scf.trips (0#32 : BitVec 32) (Scalar.addi 0#32 16#32) (1#32) = 16 from trips_eq] at hacc
      subst hacc
      iapply (owns_load_rect 𝒱₀ (c : Thread nD τ) none Set.univ) $$ H9; iintro H9
      iapply (owns_load_rect 𝒱₀ (c : Thread nD τ) none Set.univ) $$ H9; iintro H9
      iapply (owns_load_all 𝒱₀ (c : Thread nD τ) none Set.univ z1) $$ H3; iintro H3
      iapply (owns_load_all 𝒱₀ (c : Thread nD τ) none Set.univ z1) $$ H4; iintro H4
      iapply (owns_load_all 𝒱₀ (c : Thread nD τ) none Set.univ z2) $$ H5; iintro H5
      iapply (owns_load_all 𝒱₀ (c : Thread nD τ) none Set.univ z2) $$ H10; iintro H10
      iapply (owns_store_all 𝒱₀ (c : Thread nD τ) none Set.univ z2) $$ H10; iintro H10
      iapply (owns_load_all 𝒱₀ (c : Thread nD τ) none Set.univ z1) $$ H6; iintro H6
      iapply (owns_load_all 𝒱₀ (c : Thread nD τ) none Set.univ z2) $$ H5; iintro H5
      iapply (owns_load_all 𝒱₀ (c : Thread nD τ) none Set.univ z2) $$ H11; iintro H11
      iapply (owns_store_all 𝒱₀ (c : Thread nD τ) none Set.univ z2) $$ H11; iintro H11
  all_goals
    simp only [wp_ret]; imodintro
    iapply Hk
    have e1 : g1 = _ := hg1
    unfold accStep at e1
    simp only [hA, hW, ↓reduceIte] at e1
    simp only [hB, ↓reduceIte] at hg2 hg3
    rw [hg2, hg3, e1]
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    iexact H11

end Cert.Proof

end
-- ==== Proof.Phase2.lean ====
/-
  One grid point of the second phase: a block of output columns stored, a quarter at a time.
-/
module

public import proofs.«01_k».proof.Proof.Body

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- At a point of the second phase nothing of the first phase runs. -/
theorem second (i : grid0.Coords) (h : k0_cond5 i = 1#1) : ¬ cond1 i = 1#1 ∧ ¬ k0_cond2 i = 1#1 ∧ ¬ k0_cond4 i = 1#1 := by
  revert i; decide

/-- The output block after a point of the second phase that found it at `g`. -/
def out2 (i : grid0.Coords) (hc5 : k0_cond5 i = 1#1) (T : S16.Idx → BitVec 32) (f0 : S16x4096x256.Idx → Elt F .bf16)
    (f2 : S64x256.Idx → Elt F .bf16) (f3 : S64x8.Idx → Elt F .f32) (g : S1x64x4096.Idx → Elt F .f32) : S1x64x4096.Idx → Elt F .f32 :=
  rq3.overlay (rq2.overlay (rq1.overlay (rq0.overlay (g) (quarter0 (T (idx16 ((i 0).val - 16))) f2 (fun x => f0 ((Rect.unit (s := S16x4096x256) (k0_off5 i) S1x1024x256.size (k0_off5_inb i hc5)).emb x)) f3)) (quarter1 (T (idx16 ((i 0).val - 16))) f2 (fun x => f0 ((Rect.unit (s := S16x4096x256) (k0_off6 i) S1x1024x256.size (k0_off6_inb i hc5)).emb x)) f3)) (quarter2 (T (idx16 ((i 0).val - 16))) f2 (fun x => f0 ((Rect.unit (s := S16x4096x256) (k0_off7 i) S1x1024x256.size (k0_off7_inb i hc5)).emb x)) f3)) (quarter3 (T (idx16 ((i 0).val - 16))) f2 (fun x => f0 ((Rect.unit (s := S16x4096x256) (k0_off8 i) S1x1024x256.size (k0_off8_inb i hc5)).emb x)) f3)

variable (𝒱₀ : Variants) (c : Dev nD)

/-- The program of one quarter: when `cA` holds the projected rows are stored in it, when `cB` does the one column. -/
def qprog (cA cB : Prop) [Decidable cA] [Decidable cB]
    (m7 : Memref sig .tc .vmem S1x64x4096 .f32) (m8 : Memref sig .tc .vmem S16x4096x256 .bf16)
    (m10 : Memref sig .tc .vmem S64x256 .bf16) (m11 : Memref sig .tc .vmem S64x8 .f32)
    (oq : Fin 3 → Nat) (hq : ∀ a, oq a + S1x64x1024.size a ≤ S1x64x4096.size a)
    (ox : Fin 3 → Nat) (hx : ∀ a, ox a + S1x1024x256.size a ≤ S16x4096x256.size a)
    (pA : Vec F S64x256 .bf16 → Vec F S1x1024x256 .bf16 → Vec F S64x1 .f32 → Vec F S64x1 .f32 → Vec F S1x64x1024 .f32)
    (pB : Vec F S64x1 .f32 → Vec F S1x64x1024 .f32)
    (k : Prog (TpuEff nD τ sig (Elt F) Λ₀ .tc) PUnit) : Prog (TpuEff nD τ sig (Elt F) Λ₀ .tc) PUnit :=
  if _h : cA then
    .op (.load m10 (Rect.unit (s := S64x256) ![0, 0] S64x256.size inb_S64x256_S64x256_0_0).toLoadRect (View.loadsAt_vmem h_S64x256)) fun v39 =>
    .op (.load m8 (Rect.unit (s := S16x4096x256) ox S1x1024x256.size hx).toLoadRect (View.loadsAt_vmem h_S1x1024x256)) fun v41 =>
    .op (.load m11 col0.toLoadRect (View.loadsAt_vmem h_S64x1)) fun v44 =>
    .op (.load m11 col1.toLoadRect (View.loadsAt_vmem h_S64x1)) fun v60 =>
    .op (.load m7 (Rect.unit (s := S1x64x4096) oq S1x64x1024.size hq).toLoadRect (View.loadsAt_vmem h_S1x64x1024)) fun _ =>
    .op (.store m7 (Rect.unit (s := S1x64x4096) oq S1x64x1024.size hq) (pA v39 v41 v44 v60) Finset.univ
      (View.stores_vmem_bits_univ h_S1x64x1024 rfl) (.inl rfl)) fun _ =>
    if _h' : cB then
      .op (.load m11 col1.toLoadRect (View.loadsAt_vmem h_S64x1)) fun v39 =>
      .op (.load m7 (Rect.unit (s := S1x64x4096) oq S1x64x1024.size hq).toLoadRect (View.loadsAt_vmem h_S1x64x1024)) fun _ =>
      .op (.store m7 (Rect.unit (s := S1x64x4096) oq S1x64x1024.size hq) (pB v39) Finset.univ
        (View.stores_vmem_bits_univ h_S1x64x1024 rfl) (.inl rfl)) fun _ => k
    else k
  else
    if _h' : cB then
      .op (.load m11 col1.toLoadRect (View.loadsAt_vmem h_S64x1)) fun v39 =>
      .op (.load m7 (Rect.unit (s := S1x64x4096) oq S1x64x1024.size hq).toLoadRect (View.loadsAt_vmem h_S1x64x1024)) fun _ =>
      .op (.store m7 (Rect.unit (s := S1x64x4096) oq S1x64x1024.size hq) (pB v39) Finset.univ
        (View.stores_vmem_bits_univ h_S1x64x1024 rfl) (.inl rfl)) fun _ => k
    else k

/-- One quarter of the second phase. -/
theorem qprog_spec (cA cB : Prop) [Decidable cA] [Decidable cB] (hAB : cB ↔ ¬ cA)
    (m7 : Memref sig .tc .vmem S1x64x4096 .f32) (m8 : Memref sig .tc .vmem S16x4096x256 .bf16)
    (m10 : Memref sig .tc .vmem S64x256 .bf16) (m11 : Memref sig .tc .vmem S64x8 .f32)
    (oq : Fin 3 → Nat) (hq : ∀ a, oq a + S1x64x1024.size a ≤ S1x64x4096.size a)
    (ox : Fin 3 → Nat) (hx : ∀ a, ox a + S1x1024x256.size a ≤ S16x4096x256.size a)
    (pA : Vec F S64x256 .bf16 → Vec F S1x1024x256 .bf16 → Vec F S64x1 .f32 → Vec F S64x1 .f32 → Vec F S1x64x1024 .f32)
    (pB : Vec F S64x1 .f32 → Vec F S1x64x1024 .f32)
    (k : Prog (TpuEff nD τ sig (Elt F) Λ₀ .tc) PUnit)
    (f0 : S16x4096x256.Idx → Elt F .bf16)
    (f2 : S64x256.Idx → Elt F .bf16) (f3 : S64x8.Idx → Elt F .f32) (g : S1x64x4096.Idx → Elt F .f32)
    (K : PUnit → sProp (MT nD τ sig Unit (Elt F) ℕ (UR sig nD τ) ℕ)) :
    iprop((owns (c : Thread nD τ) m8 fullShare f0 ∗ owns (c : Thread nD τ) m10 fullShare f2 ∗ owns (c : Thread nD τ) m11 fullShare f3) ∗ owns (c : Thread nD τ) m7 fullShare g ∗ (((owns (c : Thread nD τ) m8 fullShare f0 ∗ owns (c : Thread nD τ) m10 fullShare f2 ∗ owns (c : Thread nD τ) m11 fullShare f3) ∗ owns (c : Thread nD τ) m7 fullShare ((Rect.unit (s := S1x64x4096) oq S1x64x1024.size hq).overlay g
        (if cA then pA f2 (fun x => f0 ((Rect.unit (s := S16x4096x256) ox S1x1024x256.size hx).emb x)) (fun y => f3 (col0.emb y)) (fun y => f3 (col1.emb y)) else pB (fun y => f3 (col1.emb y))))) -∗ wp frame (wpE (defs₀ (F := F)) 𝒱₀ (c : Thread nD τ) none) Set.univ k K))
      ⊢ wp frame (wpE (defs₀ (F := F)) 𝒱₀ (c : Thread nD τ) none) Set.univ
          (qprog cA cB m7 m8 m10 m11 oq hq ox hx pA pB k) K := by
  unfold qprog
  iintro ⟨⟨H8, H10, H11⟩, H7, Hk⟩
  by_cases hA : cA
  · have hB : ¬ cB := fun h => hAB.1 h hA
    rw [dif_pos hA, dif_neg hB, if_pos hA]
    iapply (owns_load_all 𝒱₀ (c : Thread nD τ) none Set.univ z2) $$ H10; iintro H10
    iapply (owns_load_rect 𝒱₀ (c : Thread nD τ) none Set.univ) $$ H8; iintro H8
    iapply (owns_load_rect 𝒱₀ (c : Thread nD τ) none Set.univ) $$ H11; iintro H11
    iapply (owns_load_rect 𝒱₀ (c : Thread nD τ) none Set.univ) $$ H11; iintro H11
    iapply (owns_load_rect 𝒱₀ (c : Thread nD τ) none Set.univ) $$ H7; iintro H7
    iapply (owns_store 𝒱₀ (c : Thread nD τ) none Set.univ) $$ H7; iintro H7
    iapply Hk
    isplitl [H8 H10 H11]
    · isplitl [H8]; · iexact H8
      isplitl [H10]; · iexact H10
      iexact H11
    iexact H7
  · have hB : cB := hAB.2 hA
    rw [dif_neg hA, dif_pos hB, if_neg hA]
    iapply (owns_load_rect 𝒱₀ (c : Thread nD τ) none Set.univ) $$ H11; iintro H11
    iapply (owns_load_rect 𝒱₀ (c : Thread nD τ) none Set.univ) $$ H7; iintro H7
    iapply (owns_store 𝒱₀ (c : Thread nD τ) none Set.univ) $$ H7; iintro H7
    iapply Hk
    isplitl [H8 H10 H11]
    · isplitl [H8]; · iexact H8
      isplitl [H10]; · iexact H10
      iexact H11
    iexact H7

/-- A point of the second phase. -/
theorem phase2 (i : grid0.Coords)
    (m1 : Memref sig .tc .smem S16 .i32) (h1 : m1.IsWhole) (m2 : Memref sig .tc .vmem S1x4096x256 .f32) (h2 : m2.IsWhole)
    (m3 : Memref sig .tc .vmem S256 .f32) (h3 : m3.IsWhole) (m4 : Memref sig .tc .vmem S256 .f32) (h4 : m4.IsWhole)
    (m5 : Memref sig .tc .vmem S64x256 .f32) (h5 : m5.IsWhole) (m6 : Memref sig .tc .vmem S64 .f32) (h6 : m6.IsWhole)
    (m7 : Memref sig .tc .vmem S1x64x4096 .f32) (h7 : m7.IsWhole) (m8 : Memref sig .tc .vmem S16x4096x256 .bf16) (h8 : m8.IsWhole)
    (m9 : Memref sig .tc .vmem S8x256 .f32) (h9 : m9.IsWhole) (m10 : Memref sig .tc .vmem S64x256 .bf16) (h10 : m10.IsWhole)
    (m11 : Memref sig .tc .vmem S64x8 .f32) (h11 : m11.IsWhole)
    (q : PosShare TreeShare) (T : S16.Idx → Elt F .i32) (f0 : S16x4096x256.Idx → Elt F .bf16)
    (f2 : S64x256.Idx → Elt F .bf16) (f3 : S64x8.Idx → Elt F .f32) (g : S1x64x4096.Idx → Elt F .f32) (hc5 : k0_cond5 i = 1#1)
    (K : PUnit → sProp (MT nD τ sig Unit (Elt F) ℕ (UR sig nD τ) ℕ)) :
    iprop((owns (c : Thread nD τ) m1 q T ∗ owns (c : Thread nD τ) m8 fullShare f0 ∗ owns (c : Thread nD τ) m10 fullShare f2 ∗ owns (c : Thread nD τ) m11 fullShare f3 ∗ owns (c : Thread nD τ) m7 fullShare g)
        ∗ ((owns (c : Thread nD τ) m1 q T ∗ owns (c : Thread nD τ) m8 fullShare f0 ∗ owns (c : Thread nD τ) m10 fullShare f2 ∗ owns (c : Thread nD τ) m11 fullShare f3
            ∗ owns (c : Thread nD τ) m7 fullShare (out2 i hc5 T f0 f2 f3 g))
          -∗ K ⟨⟩))
      ⊢ wp frame (wpE (defs₀ (F := F)) 𝒱₀ (c : Thread nD τ) none) Set.univ
          (cc0__fused_kernel i m1 h1 m2 h2 m3 h3 m4 h4 m5 h5 m6 h6 m7 h7 m8 h8 m9 h9 m10 h10 m11 h11) K := by
  obtain ⟨hc1, hc2, hc4⟩ := second i hc5
  have e7 := sle_iff (T (idx16 ((i 0).val - 16))) 0#32
  have e9 := sle_iff (T (idx16 ((i 0).val - 16))) 1024#32
  have e11 := sle_iff (T (idx16 ((i 0).val - 16))) 2048#32
  have e13 := sle_iff (T (idx16 ((i 0).val - 16))) 3072#32
  unfold out2
  generalize hw : T (idx16 ((i 0).val - 16)) = w at *
  simp only [cc0__fused_kernel_eq_skeleton]; unfold cc0__fused_kernel_skel
  conv => rhs; lhs; with_reducible whnf
  rw [dif_neg hc1]
  conv => rhs; lhs; with_reducible whnf
  rw [dif_neg hc2]
  conv => rhs; lhs; with_reducible whnf
  rw [dif_neg hc4]
  conv => rhs; lhs; with_reducible whnf
  rw [dif_pos hc5]
  conv => rhs; lhs; with_reducible whnf
  simp (config := { zeta := false, zetaHave := false }) only [smemLoad, smemLoadElt, Prog.lift, Prog.bind_op, Prog.bind_ret, Prog.pure_eq_ret, Prog.bind_assoc]
  iintro ⟨⟨H1, H8, H10, H11, H7⟩, Hk⟩
  iapply (owns_load_rect 𝒱₀ (c : Thread nD τ) none Set.univ) $$ H1; iintro H1
  simp (config := { zeta := false, zetaHave := false }) only [off4_eq i hc5, hw]
  iapply (qprog_spec 𝒱₀ c (k0_cond6 w = 1#1) (k0_cond7 w = 1#1) e7 m7 m8 m10 m11 (pA := k0_pay8 w) (pB := k0_pay9)) $$ [H1 H7 H8 H10 H11 Hk]
  isplitl [H8 H10 H11]
  · isplitl [H8]; · iexact H8
    isplitl [H10]; · iexact H10
    iexact H11
  isplitl [H7]; · iexact H7
  iintro ⟨⟨H8, H10, H11⟩, H7⟩
  iapply (qprog_spec 𝒱₀ c (k0_cond8 w = 1#1) (k0_cond9 w = 1#1) e9 m7 m8 m10 m11 (pA := k0_pay10 w) (pB := k0_pay11)) $$ [H1 H7 H8 H10 H11 Hk]
  isplitl [H8 H10 H11]
  · isplitl [H8]; · iexact H8
    isplitl [H10]; · iexact H10
    iexact H11
  isplitl [H7]; · iexact H7
  iintro ⟨⟨H8, H10, H11⟩, H7⟩
  iapply (qprog_spec 𝒱₀ c (k0_cond10 w = 1#1) (k0_cond11 w = 1#1) e11 m7 m8 m10 m11 (pA := k0_pay12 w) (pB := k0_pay13)) $$ [H1 H7 H8 H10 H11 Hk]
  isplitl [H8 H10 H11]
  · isplitl [H8]; · iexact H8
    isplitl [H10]; · iexact H10
    iexact H11
  isplitl [H7]; · iexact H7
  iintro ⟨⟨H8, H10, H11⟩, H7⟩
  iapply (qprog_spec 𝒱₀ c (k0_cond12 w = 1#1) (k0_cond13 w = 1#1) e13 m7 m8 m10 m11 (pA := k0_pay14 w) (pB := k0_pay15)) $$ [H1 H7 H8 H10 H11 Hk]
  isplitl [H8 H10 H11]
  · isplitl [H8]; · iexact H8
    isplitl [H10]; · iexact H10
    iexact H11
  isplitl [H7]; · iexact H7
  iintro ⟨⟨H8, H10, H11⟩, H7⟩
  simp only [wp_ret]; imodintro
  iapply Hk
  isplitl [H1]; · iexact H1
  isplitl [H8]; · iexact H8
  isplitl [H10]; · iexact H10
  isplitl [H11]; · iexact H11
  iexact H7

end Cert.Proof

end
-- ==== Proof.State.lean ====
/-
  What the kernel's buffers hold before and after each grid point, as values of the six arrays it is called with.
-/
module

public import proofs.«01_k».proof.Proof.Phase2
public import Idealize.ShloMosaic.Lib.Pipeline.ValueKit
public import Idealize.ShloMosaic.Lib.Pipeline.FrameBody

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

variable (m : (ℓ : Loc nD τ sig) → Buf (Elt F) ℓ)

/-! ## The arrays and the values computed of them -/

section Values

variable (A : S16x4096x256.Idx → Elt F .f32) (T : S16.Idx → BitVec 32) (gam bet : S256.Idx → Elt F .f32)
  (W : S64x256.Idx → Elt F .f32) (b : S64.Idx → Elt F .f32)

/-- An index of the payload from its three coordinates, the first wrapped at 16. -/
def seqIdx (j : ℕ) (r : Fin 4096) (k : Fin 256) : S16x4096x256.Idx
  | ⟨0, _⟩ => ⟨j % 16, Nat.mod_lt _ (by decide)⟩
  | ⟨1, _⟩ => r
  | ⟨2, _⟩ => k

/-- Sequence `j` of the payload. -/
def blkX (j : ℕ) : S1x4096x256.Idx → Elt F .f32 := fun y => A (seqIdx j (y 1) (y 2))

/-- An index of one sequence from its row and column. -/
def row3 (r : Fin 4096) (k : Fin 256) : S1x4096x256.Idx
  | ⟨0, _⟩ => ⟨0, Nat.one_pos⟩
  | ⟨1, _⟩ => r
  | ⟨2, _⟩ => k

/-- The copy of the payload the first phase leaves. -/
def xbuf : S16x4096x256.Idx → Elt F .bf16 := fun x => k0_pay3 (blkX A (x 0).val) (row3 (x 1) (x 2))

/-- The accumulator after the first `n` sequences. -/
def acc : ℕ → S8x256.Idx → Elt F .f32
  | 0 => k0_pay1
  | n + 1 => accStep (T (idx16 n)) (blkX A n) (acc n)

/-- The weights scaled, as the first phase leaves them. -/
def w2 : S64x256.Idx → Elt F .bf16 :=
  k0_pay19 (wsum T 16) (fun x => acc A T 16 (row0.emb x)) (fun x => acc A T 16 (row1.emb x)) gam W

/-- The bias column and the column of a row that is not valid, as the first phase leaves them. -/
def aux : S64x8.Idx → Elt F .f32 :=
  k0_pay7 (k0_pay20 b) (k0_pay21 (wsum T 16) (fun x => acc A T 16 (row0.emb x)) (fun x => acc A T 16 (row1.emb x)) gam bet b W)
    (k0_pay22 b)

/-- The block of output columns a point of the second phase leaves. -/
def outBlk (i : grid0.Coords) (g : S1x64x4096.Idx → Elt F .f32) : S1x64x4096.Idx → Elt F .f32 :=
  if h : k0_cond5 i = 1#1 then out2 i h T (xbuf A) (w2 A T gam W) (aux A T gam bet W b) g else g

end Values

/-- Every index of an output block lies in one of the four quarters. -/
theorem quarters (y : S1x64x4096.Idx) :
    (∃ z, y = rq0.emb z) ∨ (∃ z, y = rq1.emb z) ∨ (∃ z, y = rq2.emb z) ∨ (∃ z, y = rq3.emb z) := by
  have key : ∀ (o : ℕ) (ho : ∀ a, (![0, 0, o] : Fin 3 → ℕ) a + S1x64x1024.size a ≤ S1x64x4096.size a),
      o ≤ (y 2).val → (y 2).val < o + 1024 → ∃ z, y = (Rect.unit (s := S1x64x4096) ![0, 0, o] S1x64x1024.size ho).emb z := by
    intro o ho h1 h2
    refine ⟨fun | ⟨0, _⟩ => (y 0 : Fin 1) | ⟨1, _⟩ => (y 1 : Fin 64) | ⟨2, _⟩ => (⟨(y 2).val - o, by omega⟩ : Fin 1024), ?_⟩
    funext a; apply Fin.ext
    match a with
    | ⟨0, _⟩ => show (y 0).val = 0 + 1 * (y 0).val; omega
    | ⟨1, _⟩ => show (y 1).val = 0 + 1 * (y 1).val; omega
    | ⟨2, _⟩ => show (y 2).val = o + 1 * ((y 2).val - o); omega
  have h4 : (y 2).val < 4096 := (y 2).isLt
  rcases Nat.lt_or_ge (y 2).val 1024 with h | h
  · exact .inl (key 0 _ (by omega) (by omega))
  rcases Nat.lt_or_ge (y 2).val 2048 with h' | h'
  · exact .inr (.inl (key 1024 _ h (by omega)))
  rcases Nat.lt_or_ge (y 2).val 3072 with h'' | h''
  · exact .inr (.inr (.inl (key 2048 _ h' (by omega))))
  · exact .inr (.inr (.inr (key 3072 _ h'' (by omega))))

/-- A quarter further left does not meet one further right. -/
theorem quarter_ne (o o' : ℕ) (ho : ∀ a, (![0, 0, o] : Fin 3 → ℕ) a + S1x64x1024.size a ≤ S1x64x4096.size a)
    (ho' : ∀ a, (![0, 0, o'] : Fin 3 → ℕ) a + S1x64x1024.size a ≤ S1x64x4096.size a) (h : o + 1024 ≤ o')
    (z : S1x64x1024.Idx) (X : S1x64x4096.Idx → Elt F .f32) (G : S1x64x1024.Idx → Elt F .f32) :
    (Rect.unit (s := S1x64x4096) ![0, 0, o'] S1x64x1024.size ho').overlay X G
      ((Rect.unit (s := S1x64x4096) ![0, 0, o] S1x64x1024.size ho).emb z)
      = X ((Rect.unit (s := S1x64x4096) ![0, 0, o] S1x64x1024.size ho).emb z) := by
  refine Rect.overlay_of_not_mem _ _ _ fun hm => ?_
  obtain ⟨z', hz'⟩ := Finset.mem_map.1 (Rect.map_emb_univ _ ▸ hm) |>.imp fun _ h => h.2
  have h2 : o' + 1 * (z' 2).val = o + 1 * (z 2).val := congrArg (fun f => (f 2).val) hz'
  have : (z 2).val < 1024 := (z 2).isLt
  omega

section Out

variable (i : grid0.Coords) (h : k0_cond5 i = 1#1) (T : S16.Idx → BitVec 32) (f0 : S16x4096x256.Idx → Elt F .bf16)
  (f2 : S64x256.Idx → Elt F .bf16) (f3 : S64x8.Idx → Elt F .f32) (g : S1x64x4096.Idx → Elt F .f32) (z : S1x64x1024.Idx)

theorem out2_3 : out2 i h T f0 f2 f3 g (rq3.emb z) = quarter3 (T (idx16 ((i 0).val - 16))) f2 (fun x => f0 ((Rect.unit (s := S16x4096x256) (k0_off8 i) S1x1024x256.size (k0_off8_inb i h)).emb x)) f3 z :=
  Rect.overlay_emb rq3 _ _ z

theorem out2_2 : out2 i h T f0 f2 f3 g (rq2.emb z) = quarter2 (T (idx16 ((i 0).val - 16))) f2 (fun x => f0 ((Rect.unit (s := S16x4096x256) (k0_off7 i) S1x1024x256.size (k0_off7_inb i h)).emb x)) f3 z :=
  (quarter_ne 2048 3072 _ _ (by decide) z _ _).trans (Rect.overlay_emb rq2 _ _ z)

theorem out2_1 : out2 i h T f0 f2 f3 g (rq1.emb z) = quarter1 (T (idx16 ((i 0).val - 16))) f2 (fun x => f0 ((Rect.unit (s := S16x4096x256) (k0_off6 i) S1x1024x256.size (k0_off6_inb i h)).emb x)) f3 z :=
  ((quarter_ne 1024 3072 _ _ (by decide) z _ _).trans (quarter_ne 1024 2048 _ _ (by decide) z _ _)).trans (Rect.overlay_emb rq1 _ _ z)

theorem out2_0 : out2 i h T f0 f2 f3 g (rq0.emb z) = quarter0 (T (idx16 ((i 0).val - 16))) f2 (fun x => f0 ((Rect.unit (s := S16x4096x256) (k0_off5 i) S1x1024x256.size (k0_off5_inb i h)).emb x)) f3 z :=
  (((quarter_ne 0 3072 _ _ (by decide) z _ _).trans (quarter_ne 0 2048 _ _ (by decide) z _ _)).trans
    (quarter_ne 0 1024 _ _ (by decide) z _ _)).trans (Rect.overlay_emb rq0 _ _ z)

/-- What a point of the second phase leaves does not depend on what it found. -/
theorem out2_congr (g' : S1x64x4096.Idx → Elt F .f32) : out2 i h T f0 f2 f3 g = out2 i h T f0 f2 f3 g' := by
  funext y
  rcases quarters y with ⟨z, rfl⟩ | ⟨z, rfl⟩ | ⟨z, rfl⟩ | ⟨z, rfl⟩
  · rw [out2_0, out2_0]
  · rw [out2_1, out2_1]
  · rw [out2_2, out2_2]
  · rw [out2_3, out2_3]

end Out

/-! ## The proof data -/

/-- The table of lengths at launch. -/
def tbl : pre0.Contents (Elt F) := fun k => m (((0 : Dev nD) : Thread nD τ).loc (pre0.ref k))
abbrev adm : (pcfg0 (F := F)).Adm := ⟨tbl m, trivial⟩

variable (c : Dev nD)

abbrev aPay : S16x4096x256.Idx → Elt F .f32 := m ((c : Thread nD τ).loc main_arg0)
abbrev aSeq : S16.Idx → BitVec 32 := m ((c : Thread nD τ).loc main_arg1)
abbrev aGam : S256.Idx → Elt F .f32 := m ((c : Thread nD τ).loc main_arg2)
abbrev aBet : S256.Idx → Elt F .f32 := m ((c : Thread nD τ).loc main_arg3)
abbrev aW : S64x256.Idx → Elt F .f32 := m ((c : Thread nD τ).loc main_arg4)
abbrev aB : S64.Idx → Elt F .f32 := m ((c : Thread nD τ).loc main_arg5)

/-- What is known of the scratch buffers before point `n`. -/
def Known (n : ℕ) (f0 : S16x4096x256.Idx → Elt F .bf16) (f1 : S8x256.Idx → Elt F .f32) (f2 : S64x256.Idx → Elt F .bf16)
    (f3 : S64x8.Idx → Elt F .f32) : Prop :=
  (∀ x, (x 0).val < n → f0 x = xbuf (aPay m c) x) ∧ (1 ≤ n → n ≤ 16 → f1 = acc (aPay m c) (aSeq m c) n) ∧
  (16 ≤ n → f2 = w2 (aPay m c) (aSeq m c) (aGam m c) (aW m c) ∧
    f3 = aux (aPay m c) (aSeq m c) (aGam m c) (aBet m c) (aW m c) (aB m c))

/-- The body's invariant before point `n`: the table, the generator and the scratch buffers. -/
def PhiS (n : ℕ) (_ : n ≤ grid0.N) : sProp (MT nD τ sig Unit (Elt F) ℕ (UR sig nD τ) ℕ) :=
  iprop(∃ f0 f1 f2 f3, ⌜Known m c n f0 f1 f2 f3⌝
    ∗ owns (c : Thread nD τ) (Memref.whole main_arg1) fullShare.right (aSeq m c) ∗ (∃ r, prngReg c r)
    ∗ owns (c : Thread nD τ) (Memref.whole cc0_scratch0) fullShare f0 ∗ owns (c : Thread nD τ) (Memref.whole cc0_scratch1) fullShare f1
    ∗ owns (c : Thread nD τ) (Memref.whole cc0_scratch2) fullShare f2 ∗ owns (c : Thread nD τ) (Memref.whole cc0_scratch3) fullShare f3)

/-- The proof data of the pipeline on core `c`. -/
def dats (_ : Fin 1) (c : Dev nD) : Dat τ (Elt F) Unit ℕ (UR sig nD τ) ℕ (cfg0 (adm m)) c where
  A w := m (((cfg0 (adm m)).win w).arr.view.loc (c : Thread nD τ))
  after w t := match w with
    | ⟨0, _⟩ => blkX (aPay m c) (min (grid0.coords t 0).val 15)
    | ⟨1, _⟩ => aGam m c
    | ⟨2, _⟩ => aBet m c
    | ⟨3, _⟩ => aW m c
    | ⟨4, _⟩ => aB m c
    | ⟨5, _⟩ => outBlk (aPay m c) (aSeq m c) (aGam m c) (aBet m c) (aW m c) (aB m c) (grid0.coords t) (fun _ => FloatOps.ofBits .f32 0#32)
  Φ t := PhiS m c t.val (Nat.le_of_lt_succ t.isLt)
  q _ := fullShare
  owed _ := 0

end Cert.Proof

end
-- ==== Proof.Obligation.lean ====
/-
  Each grid point takes what the buffers hold before it to what they hold after it.
-/
module

public import proofs.«01_k».proof.Proof.Phase1
public import proofs.«01_k».proof.Proof.State

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-! ## The points -/

theorem coords_val (t : Fin grid0.N) : (grid0.coords t 0).val = t.val := by revert t; decide
theorem is_cond1 (i : grid0.Coords) : cond1 i = 1#1 ↔ (i 0).val = 0 := by revert i; decide
theorem is_cond2 (i : grid0.Coords) : k0_cond2 i = 1#1 ↔ (i 0).val < 16 := by revert i; decide
theorem is_cond4 (i : grid0.Coords) : k0_cond4 i = 1#1 ↔ (i 0).val = 15 := by revert i; decide
theorem is_cond5 (i : grid0.Coords) : k0_cond5 i = 1#1 ↔ 16 ≤ (i 0).val := by revert i; decide
theorem off2_eq (i : grid0.Coords) (h : k0_cond2 i = 1#1) : k0_off2 i = ![(i 0).val, 0, 0] := by
  funext a; revert i a; decide

theorem seqIdx_self (x : S16x4096x256.Idx) : seqIdx (x 0).val (x 1) (x 2) = x := by
  have h : (x 0).val < 16 := (x 0).isLt
  funext a; apply Fin.ext
  match a with
  | ⟨0, _⟩ => exact Nat.mod_eq_of_lt h
  | ⟨1, _⟩ => rfl
  | ⟨2, _⟩ => rfl

variable (m : (ℓ : Loc nD τ sig) → Buf (Elt F) ℓ) (c : Dev nD)

/-! ## What is known of the scratch buffers, from a point to the next -/

theorem known_phase1 (i : grid0.Coords) (hc2 : k0_cond2 i = 1#1) (f0 f1 f2 f3) (hk : Known m c (i 0).val f0 f1 f2 f3) (g1 g2 g3)
    (hg1 : g1 = accStep (aSeq m c (idx16 (i 0).val)) (blkX (aPay m c) (i 0).val) (if cond1 i = 1#1 then k0_pay1 else f1))
    (hg2 : g2 = if k0_cond4 i = 1#1 then k0_pay19 (wsum (aSeq m c) 16) (fun x => g1 (row0.emb x)) (fun x => g1 (row1.emb x)) (aGam m c) (aW m c) else f2)
    (hg3 : g3 = if k0_cond4 i = 1#1 then k0_pay7 (k0_pay20 (aB m c)) (k0_pay21 (wsum (aSeq m c) 16) (fun x => g1 (row0.emb x)) (fun x => g1 (row1.emb x)) (aGam m c) (aBet m c) (aB m c) (aW m c)) (k0_pay22 (aB m c)) else f3) :
    Known m c ((i 0).val + 1) ((Rect.unit (s := S16x4096x256) (k0_off2 i) S1x4096x256.size (k0_off2_inb i hc2)).overlay f0 (k0_pay3 (blkX (aPay m c) (i 0).val))) g1 g2 g3 := by
  obtain ⟨k0, k1, -⟩ := hk
  have hi := (is_cond2 i).1 hc2
  have e1 : g1 = acc (aPay m c) (aSeq m c) ((i 0).val + 1) := by
    rw [hg1]
    show _ = accStep _ _ (acc _ _ (i 0).val)
    congr 1
    by_cases h : cond1 i = 1#1
    · rw [if_pos h, (is_cond1 i).1 h]; rfl
    · rw [if_neg h]; exact k1 (Nat.one_le_iff_ne_zero.2 fun e => h ((is_cond1 i).2 e)) (le_of_lt hi)
  refine ⟨fun x hx => ?_, fun _ _ => e1, fun h16 => ?_⟩
  · rcases Nat.lt_or_ge (x 0).val (i 0).val with h | h
    · rw [Rect.overlay_of_not_mem]
      · exact k0 x h
      · intro hm
        obtain ⟨z', hz'⟩ := Finset.mem_map.1 (Rect.map_emb_univ _ ▸ hm) |>.imp fun _ h => h.2
        have h2 : k0_off2 i 0 + 1 * (z' 0).val = (x 0).val := congrArg (fun f => (f 0).val) hz'
        have e : k0_off2 i 0 = (i 0).val := congrFun (off2_eq i hc2) 0
        omega
    · have hx0 : (x 0).val = (i 0).val := by omega
      have hx : x = (Rect.unit (s := S16x4096x256) (k0_off2 i) S1x4096x256.size (k0_off2_inb i hc2)).emb (row3 (x 1) (x 2)) := by
        funext a; apply Fin.ext
        match a with
        | ⟨0, _⟩ =>
          have e : k0_off2 i 0 = (i 0).val := congrFun (off2_eq i hc2) 0
          show (x 0).val = k0_off2 i 0 + 1 * 0; omega
        | ⟨1, _⟩ =>
          have e : k0_off2 i 1 = 0 := congrFun (off2_eq i hc2) 1
          show (x 1).val = k0_off2 i 1 + 1 * (x 1).val; omega
        | ⟨2, _⟩ =>
          have e : k0_off2 i 2 = 0 := congrFun (off2_eq i hc2) 2
          show (x 2).val = k0_off2 i 2 + 1 * (x 2).val; omega
      conv => lhs; rw [hx]
      rw [Rect.overlay_emb]
      unfold xbuf; rw [hx0]
  · have h15 : (i 0).val = 15 := by omega
    have hc4 := (is_cond4 i).2 h15
    rw [if_pos hc4] at hg2 hg3
    rw [h15] at e1
    subst e1
    exact ⟨hg2, hg3⟩

theorem known_phase2 (n : ℕ) (hn : 16 ≤ n) (f0 f1 f2 f3) (hk : Known m c n f0 f1 f2 f3) : Known m c (n + 1) f0 f1 f2 f3 ∧
    f0 = xbuf (aPay m c) ∧ f2 = w2 (aPay m c) (aSeq m c) (aGam m c) (aW m c) ∧
    f3 = aux (aPay m c) (aSeq m c) (aGam m c) (aBet m c) (aW m c) (aB m c) := by
  have h0 : ∀ x, f0 x = xbuf (aPay m c) x := fun x => hk.1 x (lt_of_lt_of_le (x 0).isLt hn)
  exact ⟨⟨fun x _ => h0 x, fun _ h => absurd h (by omega), fun _ => hk.2.2 hn⟩, funext h0, hk.2.2 hn⟩

/-! ## What the staging buffers hold before a point -/

theorem before_eq_after {cfg : Cfg sig Λ₀} (dat : Dat τ (Elt F) Unit ℕ (UR sig nD τ) ℕ cfg c) (w : Fin cfg.W)
    (hw : (cfg.win w).isOut = false) (hlive : ∀ i, cfg.idle w i = false) (hclip : ∀ i a, (cfg.win w).clip i a = none)
    (hkeep : ∀ t, (cfg.win w).cut (cfg.grid.coords t) (dat.after w t) = dat.blockOf w t) (t : Fin cfg.N) (d) :
    dat.before w t d = dat.after w t := by
  rw [dat.before_in_eq_fetched w hw hlive (fun t t' _ => by funext a; rw [hclip, hclip]) hkeep t d,
    dat.fetched_of_clip_none w t (hclip _) d (dat.after w t)]
  unfold Dat.fetched
  rw [← hkeep]
  funext j
  have hm : (cfg.win w).moved (cfg.grid.coords t) j = true :=
    ((cfg.win w).moved_iff _ j).mpr fun a => by have := (j a).isLt; unfold Window.xsize; rw [hclip]; exact this
  unfold Window.fill Window.cut; rw [dif_pos hm]

theorem tr0 (i : grid0.Coords) : cc0_transform_0 i = ![min (i 0).val 15, 0, 0] := by funext a; revert i a; decide
theorem tr1 (i : grid0.Coords) : cc0_transform_1 i = fun _ => 0 := by funext a; revert i a; decide
theorem tr2 (i : grid0.Coords) : cc0_transform_2 i = fun _ => 0 := by funext a; revert i a; decide
theorem tr3 (i : grid0.Coords) : cc0_transform_3 i = fun _ => 0 := by funext a; revert i a; decide
theorem tr4 (i : grid0.Coords) : cc0_transform_4 i = fun _ => 0 := by funext a; revert i a; decide

theorem win_idx0 (t : Fin (cfg0 (adm m)).N) : ((cfg0 (adm m)).win 0).index t = ![min (grid0.coords t 0).val 15, 0, 0] := tr0 _
theorem win_idx1 (t : Fin (cfg0 (adm m)).N) : ((cfg0 (adm m)).win 1).index t = fun _ => 0 := tr1 (grid0.coords t)
theorem win_idx2 (t : Fin (cfg0 (adm m)).N) : ((cfg0 (adm m)).win 2).index t = fun _ => 0 := tr2 (grid0.coords t)
theorem win_idx3 (t : Fin (cfg0 (adm m)).N) : ((cfg0 (adm m)).win 3).index t = fun _ => 0 := tr3 (grid0.coords t)
theorem win_idx4 (t : Fin (cfg0 (adm m)).N) : ((cfg0 (adm m)).win 4).index t = fun _ => 0 := tr4 (grid0.coords t)

/-- A coordinate inside a block, from the block's index on its axis. -/
theorem addr_at {x i k s y : ℕ} (hi : i = k) (h : x = k * s + y) : x = i * s + y := hi ▸ h
theorem addr_zero {x i s y : ℕ} (hi : i = 0) (h : x = y) : x = i * s + y := by rw [hi, Nat.zero_mul, Nat.zero_add, h]

theorem before0 (t : Fin (cfg0 (adm m)).N) (d) : (dats m 0 c).before (0 : Fin 6) t d = blkX (aPay m c) (min (grid0.coords t 0).val 15) := by
  refine before_eq_after c (dats m 0 c) (0 : Fin 6) rfl (fun _ => rfl) (fun _ _ => rfl) (fun t => ?_) t d
  funext y
  show aPay m c _ = aPay m c _
  congr 1
  funext a; apply Fin.ext
  blk_simp [win_idx0]
  have h0 : (y 0).val < 1 := (y 0).isLt
  match a with
  | ⟨0, h⟩ =>
    refine addr_at (congrFun (win_idx0 m t) ⟨0, h⟩) ?_
    show min (grid0.coords t 0).val 15 % 16 = min (grid0.coords t 0).val 15 * 1 + (y 0).val
    omega
  | ⟨1, h⟩ => exact addr_zero (congrFun (win_idx0 m t) ⟨1, h⟩) rfl
  | ⟨2, h⟩ => exact addr_zero (congrFun (win_idx0 m t) ⟨2, h⟩) rfl

theorem before1 (t : Fin (cfg0 (adm m)).N) (d) : (dats m 0 c).before (1 : Fin 6) t d = aGam m c := by
  refine before_eq_after c (dats m 0 c) (1 : Fin 6) rfl (fun _ => rfl) (fun _ _ => rfl) (fun t => ?_) t d
  funext y
  show aGam m c _ = aGam m c _
  congr 1
  funext a; apply Fin.ext
  blk_simp [win_idx1]
  exact addr_zero (congrFun (win_idx1 m t) a) rfl

theorem before2 (t : Fin (cfg0 (adm m)).N) (d) : (dats m 0 c).before (2 : Fin 6) t d = aBet m c := by
  refine before_eq_after c (dats m 0 c) (2 : Fin 6) rfl (fun _ => rfl) (fun _ _ => rfl) (fun t => ?_) t d
  funext y
  show aBet m c _ = aBet m c _
  congr 1
  funext a; apply Fin.ext
  blk_simp [win_idx2]
  exact addr_zero (congrFun (win_idx2 m t) a) rfl

theorem before3 (t : Fin (cfg0 (adm m)).N) (d) : (dats m 0 c).before (3 : Fin 6) t d = aW m c := by
  refine before_eq_after c (dats m 0 c) (3 : Fin 6) rfl (fun _ => rfl) (fun _ _ => rfl) (fun t => ?_) t d
  funext y
  show aW m c _ = aW m c _
  congr 1
  funext a; apply Fin.ext
  blk_simp [win_idx3]
  exact addr_zero (congrFun (win_idx3 m t) a) rfl

theorem before4 (t : Fin (cfg0 (adm m)).N) (d) : (dats m 0 c).before (4 : Fin 6) t d = aB m c := by
  refine before_eq_after c (dats m 0 c) (4 : Fin 6) rfl (fun _ => rfl) (fun _ _ => rfl) (fun t => ?_) t d
  funext y
  show aB m c _ = aB m c _
  congr 1
  funext a; apply Fin.ext
  blk_simp [win_idx4]
  exact addr_zero (congrFun (win_idx4 m t) a) rfl

theorem tr5 (i : grid0.Coords) : cc0_transform_5 i = ![(i 0).val - 16, 0, 0] := by funext a; revert i a; decide
theorem win_idx5 (t : Fin (cfg0 (adm m)).N) : ((cfg0 (adm m)).win 5).index t = ![(grid0.coords t 0).val - 16, 0, 0] := tr5 (grid0.coords t)

theorem idle5 (t : Fin (cfg0 (adm m)).N) :
    (cfg0 (adm m)).idle (5 : Fin 6) (grid0.coords t) = !(k0_cond5 (grid0.coords t) == 1#1) := by
  show idle0 (tbl m) 5 (grid0.coords t) = _
  by_cases h : k0_cond5 (grid0.coords t) = 1#1
  · have e := sle_iff ((tbl m).atD 0 (k0_off4 (grid0.coords t))) 0#32
    by_cases h6 : k0_cond6 ((tbl m).atD 0 (k0_off4 (grid0.coords t))) = 1#1
    · simp only [idle0, h, h6, beq_self_eq_true, Bool.and_self, Bool.not_true, Bool.false_and]
    · have h7 : k0_cond7 ((tbl m).atD 0 (k0_off4 (grid0.coords t))) = 1#1 := e.2 h6
      simp only [idle0, h, h7, beq_self_eq_true, Bool.and_self, Bool.not_true, Bool.false_and, Bool.and_false]
  · have h' : (k0_cond5 (grid0.coords t) == 1#1) = false := beq_eq_false_iff_ne.2 h
    simp only [idle0, h', Bool.false_and, Bool.not_false, Bool.and_self]

theorem flush5 (t : Fin (cfg0 (adm m)).N) (h : ¬ k0_cond5 (grid0.coords t) = 1#1) : ((cfg0 (adm m)).win (5 : Fin 6)).flush t = false := by
  have hlt : t.val < 32 := t.isLt
  have ht : t.val < 16 := by rw [← coords_val t]; exact Nat.lt_of_not_ge fun h' => h ((is_cond5 _).2 h')
  rw [Bool.eq_false_iff]
  intro hf
  simp only [Window.flush, Bool.and_eq_true, Bool.or_eq_true, decide_eq_true_eq] at hf
  rcases hf.2 with hN | ⟨hlt', hne⟩
  · have : t.val + 1 = 32 := hN
    omega
  · refine hne ((win_idx5 m ⟨t.val + 1, hlt'⟩).trans (Eq.trans ?_ (win_idx5 m t).symm))
    rw [coords_val, coords_val, Nat.sub_eq_zero_of_le (show t.val + 1 ≤ 16 by omega), Nat.sub_eq_zero_of_le (show t.val ≤ 16 by omega)]

/-! ## The obligation -/

theorem Phi_castSucc (t : Fin (cfg0 (adm m)).N) : (dats m 0 c).Φ t.castSucc = PhiS m c t.val (Nat.le_of_lt t.isLt) := by
  dsimp only [dats]; exact Dat.Φ_castSucc (PhiS m c) t
theorem Phi_succ (t : Fin (cfg0 (adm m)).N) : (dats m 0 c).Φ t.succ = PhiS m c (t.val + 1) t.isLt := by
  dsimp only [dats]; rfl
theorem after0 (t : Fin (cfg0 (adm m)).N) : (dats m 0 c).after (0 : Fin 6) t = blkX (aPay m c) (min (grid0.coords t 0).val 15) := by dsimp only [dats]
theorem after1 (t : Fin (cfg0 (adm m)).N) : (dats m 0 c).after (1 : Fin 6) t = aGam m c := by dsimp only [dats]
theorem after2 (t : Fin (cfg0 (adm m)).N) : (dats m 0 c).after (2 : Fin 6) t = aBet m c := by dsimp only [dats]
theorem after3 (t : Fin (cfg0 (adm m)).N) : (dats m 0 c).after (3 : Fin 6) t = aW m c := by dsimp only [dats]
theorem after4 (t : Fin (cfg0 (adm m)).N) : (dats m 0 c).after (4 : Fin 6) t = aB m c := by dsimp only [dats]
theorem after5 (t : Fin (cfg0 (adm m)).N) : (dats m 0 c).after (5 : Fin 6) t
    = outBlk (aPay m c) (aSeq m c) (aGam m c) (aBet m c) (aW m c) (aB m c) (grid0.coords t) (fun _ => FloatOps.ofBits .f32 0#32) := by dsimp only [dats]

set_option maxHeartbeats 800000 in
theorem body_obligation : BodyObligation (dats m 0 c) (defs₀ (F := F)) Variants.none () Set.univ := fun t => by
  have hcv := coords_val t
  rw [bigSep_W0, bigSep_W0]
  simp only [before0, before1, before2, before3, before4]
  have hI : idle0 (tbl m) 5 ((pcfg0.gridAt (tbl m)).coords t) = !(k0_cond5 (grid0.coords t) == 1#1) := idle5 m t
  by_cases h : k0_cond5 (grid0.coords t) = 1#1
  · simp only [hI, h, beq_self_eq_true, Bool.not_true]
    rw [Phi_castSucc, Phi_succ, after0, after1, after2, after3, after4, after5]
    unfold PhiS
    iintro ⟨⟨%f0, %f1, %f2, %f3, %hk, HT, HR, H8, H9, H10, H11⟩, HW, ⟨%d0, H2⟩, ⟨%d1, H3⟩, ⟨%d2, H4⟩, ⟨%d3, H5⟩, ⟨%d4, H6⟩, ⟨%d5, H7⟩⟩
    obtain ⟨hk', e0, e2, e3⟩ := known_phase2 m c t.val (hcv ▸ (is_cond5 _).1 h) f0 f1 f2 f3 hk
    iapply (phase2 Variants.none c (grid0.coords t) (Memref.whole main_arg1) (Memref.isWhole_whole _) _ (hstage0_0 _) _ (hstage0_1 _)
      _ (hstage0_2 _) _ (hstage0_3 _) _ (hstage0_4 _) _ (hstage0_5 _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) fullShare.right (aSeq m c) f0 f2 f3 _ h) $$ [HT HR H8 H9 H10 H11 HW H2 H3 H4 H5 H6 H7]
    isplitl [HT H8 H10 H11 H7]
    · isplitl [HT]; · iexact HT
      isplitl [H8]; · iexact H8
      isplitl [H10]; · iexact H10
      isplitl [H11]; · iexact H11
      iexact H7
    iintro ⟨HT, H8, H10, H11, H7⟩
    isplitl [HT HR H8 H9 H10 H11]
    · iexists f0; iexists f1; iexists f2; iexists f3
      isplitl []; · ipureintro; exact hk'
      isplitl [HT]; · iexact HT
      isplitl [HR]; · iexact HR
      isplitl [H8]; · iexact H8
      isplitl [H9]; · iexact H9
      isplitl [H10]; · iexact H10
      iexact H11
    isplitl [HW]; · iexact HW
    isplitl [H2]; · iexact H2
    isplitl [H3]; · iexact H3
    isplitl [H4]; · iexact H4
    isplitl [H5]; · iexact H5
    isplitl [H6]; · iexact H6
    rw [show outBlk (aPay m c) (aSeq m c) (aGam m c) (aBet m c) (aW m c) (aB m c) (grid0.coords t) (fun _ => FloatOps.ofBits .f32 0#32)
      = out2 (grid0.coords t) h (aSeq m c) f0 f2 f3 ((dats m 0 c).before (5 : Fin 6) t d5) from by
        unfold outBlk; rw [dif_pos h, e0, e2, e3]; exact out2_congr _ _ _ _ _ _ _ _]
    iexact H7
  · simp only [hI, show (k0_cond5 (grid0.coords t) == 1#1) = false from beq_eq_false_iff_ne.2 h, Bool.not_false]
    split
    next hF =>
      have hlt : (grid0.coords t 0).val < 16 := Nat.lt_of_not_ge fun h' => h ((is_cond5 _).2 h')
      have hc2 := (is_cond2 (grid0.coords t)).2 hlt
      rw [Phi_castSucc, Phi_succ, after0, after1, after2, after3, after4]
      rw [show min (grid0.coords t 0).val 15 = (grid0.coords t 0).val from by omega]
      unfold PhiS
      iintro ⟨⟨%f0, %f1, %f2, %f3, %hk, HT, HR, H8, H9, H10, H11⟩, HW, ⟨%d0, H2⟩, ⟨%d1, H3⟩, ⟨%d2, H4⟩, ⟨%d3, H5⟩, ⟨%d4, H6⟩, H7⟩
      obtain ⟨g0, hg0⟩ : ∃ g0, g0 = (Rect.unit (s := S16x4096x256) (k0_off2 (grid0.coords t)) S1x4096x256.size (k0_off2_inb (grid0.coords t) hc2)).overlay f0 (k0_pay3 (blkX (aPay m c) (grid0.coords t 0).val)) := ⟨_, rfl⟩
      obtain ⟨g1, hg1⟩ : ∃ g1, g1 = accStep (aSeq m c (idx16 (grid0.coords t 0).val)) (blkX (aPay m c) (grid0.coords t 0).val) (if cond1 (grid0.coords t) = 1#1 then k0_pay1 else f1) := ⟨_, rfl⟩
      obtain ⟨g2, hg2⟩ : ∃ g2, g2 = if k0_cond4 (grid0.coords t) = 1#1 then k0_pay19 (wsum (aSeq m c) 16) (fun x => g1 (row0.emb x)) (fun x => g1 (row1.emb x)) (aGam m c) (aW m c) else f2 := ⟨_, rfl⟩
      obtain ⟨g3, hg3⟩ : ∃ g3, g3 = if k0_cond4 (grid0.coords t) = 1#1 then k0_pay7 (k0_pay20 (aB m c)) (k0_pay21 (wsum (aSeq m c) 16) (fun x => g1 (row0.emb x)) (fun x => g1 (row1.emb x)) (aGam m c) (aBet m c) (aB m c) (aW m c)) (k0_pay22 (aB m c)) else f3 := ⟨_, rfl⟩
      have hk' : Known m c (t.val + 1) g0 g1 g2 g3 := by
        rw [hg0]; rw [← hcv] at hk ⊢
        exact known_phase1 m c (grid0.coords t) hc2 f0 f1 f2 f3 hk g1 g2 g3 hg1 hg2 hg3
      iapply (phase1 Variants.none c (grid0.coords t) (Memref.whole main_arg1) (Memref.isWhole_whole _) _ (hstage0_0 _) _ (hstage0_1 _)
        _ (hstage0_2 _) _ (hstage0_3 _) _ (hstage0_4 _) _ (hstage0_5 _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) fullShare.right (aSeq m c) (blkX (aPay m c) (grid0.coords t 0).val) f0 f1
        (aGam m c) (aBet m c) (aW m c) (aB m c) f2 f3 hc2 h g1 hg1 g2 hg2 g3 hg3) $$ [HT HR H8 H9 H10 H11 HW H2 H3 H4 H5 H6 H7]
      isplitl [HT H8 H9 H10 H11 H2 H3 H4 H5 H6]
      · isplitl [HT]; · iexact HT
        isplitl [H2]; · iexact H2
        isplitl [H3]; · iexact H3
        isplitl [H4]; · iexact H4
        isplitl [H5]; · iexact H5
        isplitl [H6]; · iexact H6
        isplitl [H8]; · iexact H8
        isplitl [H9]; · iexact H9
        isplitl [H10]; · iexact H10
        iexact H11
      rw [← hg0]
      iintro ⟨HT, H2, H3, H4, H5, H6, H8, H9, H10, H11⟩
      isplitl [HT HR H8 H9 H10 H11]
      · iexists g0; iexists g1; iexists g2; iexists g3
        isplitl []; · ipureintro; exact hk'
        isplitl [HT]; · iexact HT
        isplitl [HR]; · iexact HR
        isplitl [H8]; · iexact H8
        isplitl [H9]; · iexact H9
        isplitl [H10]; · iexact H10
        iexact H11
      isplitl [HW]; · iexact HW
      isplitl [H2]; · iexact H2
      isplitl [H3]; · iexact H3
      isplitl [H4]; · iexact H4
      isplitl [H5]; · iexact H5
      isplitl [H6]; · iexact H6
      iexact H7
    next hT => exact absurd (hT.symm.trans (flush5 m t h)) (by decide)

end Cert.Proof

end
-- ==== Proof.Run.lean ====
/-
  The kernel's run: its result as a value of the six arrays it is called with, which it leaves as they were.
-/
module

public import proofs.«01_k».proof.Proof.Obligation
public import Idealize.ShloMosaic.Lib.Pipeline.FrameSuffix

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

variable (m : (ℓ : Loc nD τ sig) → Buf (Elt F) ℓ) (ρ : Dev nD → PrngReg)

/-- A core's buffers when the pipeline is entered: as at launch. -/
abbrev V0 (c : Dev nD) : Valuation τ sig (Elt F) := StableHlo.after (List.flatten []) (fun b => m (c, b))

theorem hmain (𝒱₀ : Variants) : Pipeline.HMainPK (Ix := Unit) (Name := ℕ) (U := UR sig nD τ) (Lvl := ℕ) pcfgs 0 defs₀ 𝒱₀ m (main (F := F))
    (fun c b => V0 m c (Proc.devRef .tc b)) (fun _ => Pipeline.chain ([hostOps1].map StableHlo.seq)) :=
  Pipeline.hmainP_around pcfgs 0 defs₀ 𝒱₀ m main [] [hostOps1] (by simp only [List.Forall]) (by simp only [List.Forall]) main_chain

theorem sfx_sub : ∀ ops ∈ ([hostOps1] : List (List (HloOp τ sig (Elt F)))), ∀ op ∈ ops, op.bufs ⊆ Pipeline.tailRefs sig pre0 spec0 := by
  intro ops hops op hop
  obtain rfl := List.mem_singleton.1 hops
  obtain rfl := List.mem_singleton.1 hop
  refine Pipeline.sub_tailRefs _ _ _ (StableHlo.unary_bufs_sub ..) fun j => ?_
  fin_cases j
  simp only [StableHlo.unary_bufs, Finset.mem_insert, Finset.mem_singleton, not_or]
  exact ⟨StableHlo.devRef_ne_of_ne (by decide), StableHlo.devRef_ne_of_ne (by decide)⟩

theorem sfx_fresh : ∀ ops ∈ ([hostOps1] : List (List (HloOp τ sig (Elt F)))), ∀ op ∈ ops, op.fresh = ∅ := by
  intro ops hops op hop
  obtain rfl := List.mem_singleton.1 hops
  obtain rfl := List.mem_singleton.1 hop
  rfl

theorem sfx_keeps : ∀ ops ∈ ([hostOps1] : List (List (HloOp τ sig (Elt F)))), ∀ op ∈ ops, ∀ w, Proc.devRef .tc (Pipeline.arrRef spec0 w) ∉ op.writes := by
  intro ops hops op hop
  obtain rfl := List.mem_singleton.1 hops
  obtain rfl := List.mem_singleton.1 hop
  intro w
  fin_cases w <;> simp only [StableHlo.unary_writes, Finset.mem_singleton] <;> exact StableHlo.devRef_ne_of_ne (by decide)

theorem A_eq (c : Dev nD) (w : Fin 6) : (dats m 0 c).A w = V0 m c (Proc.devRef .tc (Pipeline.arrRef spec0 w)) := by
  fin_cases w <;> rfl

theorem V_pre (c : Dev nD) (k : Fin 1) : V0 m c (Proc.devRef .tc (pre0.ref k)) = (adm m).1 k := by
  obtain rfl : c = 0 := Subsingleton.elim _ _
  rfl

theorem hin (c : Dev nD) : iprop(Pipeline.ΦA spec0 c ∗ Pipeline.ΦT pre0 (adm m).1 c) ⊢ (dats m 0 c).Φ 0 := by
  have e : (dats m 0 c).Φ 0 = PhiS m c 0 (Nat.zero_le _) := by dsimp only [dats]; rfl
  rw [e]
  unfold Pipeline.ΦA Pipeline.ΦT Pipeline.prefHeld PhiS
  rw [show (Finset.univ : Finset (Fin pre0.K)) = {(0 : Fin 1)} from by decide, bigSep_singleton, scopedRest0_eq]
  simp only [owns_whole]
  iintro ⟨⟨⟨⟨%f0, H0⟩, ⟨%f1, H1⟩, ⟨%f2, H2⟩, ⟨%f3, H3⟩⟩, HR⟩, HT⟩
  iexists f0; iexists f1; iexists f2; iexists f3
  isplitl []
  · ipureintro
    exact ⟨fun _ h => absurd h (Nat.not_lt_zero _), fun h => absurd h (by decide), fun h => absurd h (by decide)⟩
  isplitl [HT]
  · rw [show aSeq m c = (adm m).1 0 from V_pre m c 0]; iexact HT
  isplitl [HR]; · iexact HR
  isplitl [H0]; · iexact H0
  isplitl [H1]; · iexact H1
  isplitl [H2]; · iexact H2
  iexact H3

theorem hout (c : Dev nD) : (dats m 0 c).Φ (Fin.last grid0.N) ⊢ Pipeline.ΦA spec0 c := by
  have e : (dats m 0 c).Φ (Fin.last grid0.N) = PhiS m c grid0.N (le_refl _) := by dsimp only [dats]; rfl
  rw [e]
  unfold Pipeline.ΦA PhiS
  rw [scopedRest0_eq]
  simp only [owns_whole]
  iintro ⟨%f0, %f1, %f2, %f3, %hk, HT, HR, H0, H1, H2, H3⟩
  isplitl [H0 H1 H2 H3]
  · isplitl [H0]; · iexists f0; iexact H0
    isplitl [H1]; · iexists f1; iexact H1
    isplitl [H2]; · iexists f2; iexact H2
    iexists f3; iexact H3
  iexact HR

/-- The point of the second phase that writes sequence `j`'s block. -/
def pt (j : ℕ) : grid0.Coords := fun a => ⟨16 + j % 16, by
  have h : j % 16 < 16 := Nat.mod_lt _ (by decide)
  fin_cases a; show 16 + j % 16 < 32; omega⟩

/-- An index of a block of output columns from its row and column. -/
def col3 (o : Fin 64) (r : Fin 4096) : S1x64x4096.Idx
  | ⟨0, _⟩ => ⟨0, Nat.one_pos⟩
  | ⟨1, _⟩ => o
  | ⟨2, _⟩ => r

/-- The pipeline's result: each sequence's block of output columns. -/
def outArr (c : Dev nD) : S16x64x4096.Idx → Elt F .f32 := fun y =>
  outBlk (aPay m c) (aSeq m c) (aGam m c) (aBet m c) (aW m c) (aB m c) (pt (y 0).val) (fun _ => FloatOps.ofBits .f32 0#32) (col3 (y 1) (y 2))

theorem flush5' (t : Fin (cfg0 (adm m)).N) (h : 16 ≤ t.val) : ((cfg0 (adm m)).win (5 : Fin 6)).flush t = true := by
  have hlt : t.val < 32 := t.isLt
  simp only [Window.flush, Bool.and_eq_true, Bool.or_eq_true, decide_eq_true_eq]
  refine ⟨trivial, ?_⟩
  rcases Nat.lt_or_ge t.val 31 with h31 | h31
  · have hN : t.val + 1 < (cfg0 (adm m)).N := show t.val + 1 < 32 by omega
    refine .inr ⟨hN, fun e => ?_⟩
    have e' : (grid0.coords ⟨t.val + 1, hN⟩ 0).val - 16 = (grid0.coords t 0).val - 16 :=
      ((congrFun (win_idx5 m ⟨t.val + 1, hN⟩) (0 : Fin 3)).symm.trans (congrFun e (0 : Fin 3))).trans (congrFun (win_idx5 m t) (0 : Fin 3))
    rw [coords_val, coords_val] at e'
    have e'' : t.val + 1 - 16 = t.val - 16 := e'
    omega
  · exact .inl (show t.val + 1 = 32 by omega)

theorem covers5 : ((cfg0 (adm m)).win (5 : Fin 6)).Covers := by
  refine ⟨fun a => ?_, fun β => ?_⟩
  · match a with
    | ⟨0, _⟩ => exact Nat.one_pos
    | ⟨1, _⟩ => exact (by decide : 0 < 64)
    | ⟨2, _⟩ => exact (by decide : 0 < 4096)
  · have h0 : (β 0).val < 16 := lt_of_lt_of_eq (β 0).isLt (by show (16 + 1 - 1) / 1 = 16; decide)
    have h1 : (β 1).val < 1 := lt_of_lt_of_eq (β 1).isLt (by show (64 + 64 - 1) / 64 = 1; decide)
    have h2 : (β 2).val < 1 := lt_of_lt_of_eq (β 2).isLt (by show (4096 + 4096 - 1) / 4096 = 1; decide)
    let t : Fin (cfg0 (adm m)).N := ⟨16 + (β 0).val, show 16 + (β 0).val < 32 by omega⟩
    have ht : (grid0.coords t 0).val = 16 + (β 0).val := coords_val t
    refine ⟨t, flush5' m t (Nat.le_add_right _ _), fun a => ⟨(congrFun (win_idx5 m t) a).trans ?_, .inl rfl⟩⟩
    match a with
    | ⟨0, _⟩ => show (grid0.coords t 0).val - 16 = (β 0).val; omega
    | ⟨1, _⟩ => show 0 = (β 1).val; omega
    | ⟨2, _⟩ => show 0 = (β 2).val; omega

theorem arrAt5 (c : Dev nD) : (dats m 0 c).arrAt (5 : Fin 6) grid0.N = outArr m c := by
  refine (dats m 0 c).arrAt_eq_of_covers (5 : Fin 6) (outArr m c) (covers5 m) fun t hf y => ?_
  have ht : 16 ≤ t.val := by
    rcases Nat.lt_or_ge t.val 16 with h | h
    · rw [flush5 m t fun h' => by have := (is_cond5 _).1 h'; rw [coords_val t] at this; omega] at hf
      exact absurd hf (by decide)
    · exact h
  have hlt : t.val < 32 := t.isLt
  have h0 : (y 0).val < 1 := (y 0).isLt
  have e0 : ((((cfg0 (adm m)).win (5 : Fin 6)).blk t).view.emb y 0).val = t.val - 16 := by
    blk_simp [win_idx5]
    exact (congrFun (win_idx5 m t) (0 : Fin 3)).trans (show (grid0.coords t 0).val - 16 = t.val - 16 by rw [coords_val t])
  have e1 : ((((cfg0 (adm m)).win (5 : Fin 6)).blk t).view.emb y 1).val = (y 1).val := by
    blk_simp [win_idx5]
    exact Eq.symm (addr_zero (congrFun (win_idx5 m t) (1 : Fin 3)) rfl)
  have e2 : ((((cfg0 (adm m)).win (5 : Fin 6)).blk t).view.emb y 2).val = (y 2).val := by
    blk_simp [win_idx5]
    exact Eq.symm (addr_zero (congrFun (win_idx5 m t) (2 : Fin 3)) rfl)
  have ep : grid0.coords t = pt (t.val - 16) := by
    funext a; apply Fin.ext
    match a with
    | ⟨0, _⟩ =>
      refine (coords_val t).trans ?_
      show t.val = 16 + (t.val - 16) % 16
      omega
  have ey : (((cfg0 (adm m)).win (5 : Fin 6)).xinj (grid0.coords t) y : S1x64x4096.Idx)
      = col3 ((((cfg0 (adm m)).win (5 : Fin 6)).blk t).view.emb y 1) ((((cfg0 (adm m)).win (5 : Fin 6)).blk t).view.emb y 2) := by
    funext a; apply Fin.ext
    match a with
    | ⟨0, _⟩ => show (y 0).val = 0; omega
    | ⟨1, _⟩ => exact e1.symm
    | ⟨2, _⟩ => exact e2.symm
  refine (congrArg _ (congrFun (after5 m c t) _)).trans ?_
  show outBlk _ _ _ _ _ _ (grid0.coords t) _ (((cfg0 (adm m)).win (5 : Fin 6)).xinj (grid0.coords t) y) = outArr m c ((((cfg0 (adm m)).win (5 : Fin 6)).blk t).view.emb y)
  unfold outArr
  rw [ey, e0, ep]

/-- The program's result, of a core's launch memory. -/
def result (c : Dev nD) : S16x4096x64.Idx → Elt F .f32 :=
  transpose S16x4096x64 [0, 2, 1] (outArr m c) transposes_S16x64x4096_S16x4096x64_0_2_1

theorem tail_of_ne (c : Dev nD) (b : Ref sig .tc) (hb : b ≠ main_v1) (hw : ∀ w, Pipeline.arrRef spec0 w ≠ b) :
    Pipeline.afterTail pcfgs (fun _ => adm m) (dats m) 0 (V0 m) [hostOps1] c b = m ((c : Thread nD τ).loc b) := by
  unfold Pipeline.afterTail
  rw [StableHlo.after_of_forall_not_mem, Pipeline.withArrays_of_ne _ c (V0 m c) _ b hw]
  · rfl
  · intro op hop
    obtain rfl := List.mem_singleton.1 hop
    simp only [StableHlo.unary_writes, Finset.mem_singleton]
    exact StableHlo.devRef_ne_of_ne hb

theorem tail_v1 (c : Dev nD) :
    Pipeline.afterTail pcfgs (fun _ => adm m) (dats m) 0 (V0 m) [hostOps1] c main_v1 = result m c := by
  have e : Pipeline.withArrays spec0 c (V0 m c) (fun w => (dats m 0 c).arrAt w grid0.N) (Proc.devRef .tc main_v0) = outArr m c :=
    (Pipeline.withArrays_arr spec0 winFacts0.arr_inj c (V0 m c) (fun w => (dats m 0 c).arrAt w grid0.N) (5 : Fin 6)).trans (arrAt5 m c)
  unfold Pipeline.afterTail result
  show StableHlo.after [_] _ _ = _
  rw [StableHlo.after_cons, StableHlo.after_nil, StableHlo.unary_result]
  exact congrArg (fun x => transpose S16x4096x64 [0, 2, 1] x transposes_S16x64x4096_S16x4096x64_0_2_1) e

/-- The run: every core's result is `result`, its arguments are as they were, and every counter is back at zero. -/
theorem run : θ_run (defs (F := F)) (onTc (τ := τ) (main (F := F))) ⟨m, fun _ => 0, ρ⟩ (fun r =>
    (∀ c : Dev nD, r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) := by
  refine Pipeline.θ_run_frameP_around_track pcfgs (fun _ => adm m) (dats m) (0 : Fin 1) launch0 defs₀ Variants.none m ρ main
    (hbody := fun c => (body_obligation m c).loose) (hshare := fun c w => by fin_cases w <;> rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m) _ ?_
  rintro r ⟨h, hs⟩
  refine ⟨fun c => ⟨?_, ?_, ?_, ?_, ?_, ?_, ?_⟩, hs⟩
  · exact (h.rest_eq c main_v1 (show main_v1 ∈ Pipeline.restRefs sig spec0 by decide)).trans (tail_v1 m c)
  · exact h.in_eq c (0 : Fin 6) rfl
  · exact (h.rest_eq c main_arg1 (show main_arg1 ∈ Pipeline.restRefs sig spec0 by decide)).trans (tail_of_ne m c main_arg1 (by decide) (by decide))
  · exact h.in_eq c (1 : Fin 6) rfl
  · exact h.in_eq c (2 : Fin 6) rfl
  · exact h.in_eq c (3 : Fin 6) rfl
  · exact h.in_eq c (4 : Fin 6) rfl

end Cert.Proof

end
-- ==== Proof.Twin.lean ====
/-
  The kernel as it runs on words is the same program as the kernel read over the extended reals.
-/
module

public import proofs.«01_k».proof.Defs
public import proofs.«01_k».proof.Proof.Gen.Kernel
public import proofs.«01_k».proof.Proof.Gen.KernelIdeal

@[expose] public section

namespace Cert.Proof

open Idealize.ShloMosaic

theorem same_bodies : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l x
  match l, x with
  | 0, (t, s) => exact rfl

theorem same_calls : @Cert.Kernel.pcfgs Bits _ Cert.Kernel.Gen.facts = @Cert.KernelIdeal.pcfgs Bits _ Cert.KernelIdeal.Gen.facts := rfl

theorem same_main : @Cert.Kernel.main Bits _ Cert.Kernel.Gen.facts = @Cert.KernelIdeal.main Bits _ Cert.KernelIdeal.Gen.facts := rfl

theorem same_defs : @Cert.Kernel.defs Bits _ Cert.Kernel.Gen.facts = @Cert.KernelIdeal.defs Bits _ Cert.KernelIdeal.Gen.facts := by
  unfold Cert.Kernel.defs Cert.KernelIdeal.defs
  exact congrArg (Pipeline.defs (@Cert.KernelIdeal.pcfgs Bits _ Cert.KernelIdeal.Gen.facts)) same_bodies

end Cert.Proof

end
-- ==== Proof.Frames.lean ====
/-
  The kernel and the reference end, with their arguments as they were and every counter back at zero.
-/
module

public import proofs.«01_k».proof.Proof.Run
public import proofs.«01_k».proof.Proof.Twin
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem ideal_quiescent : @Cert.quiescent_KernelIdeal Cert.KernelIdeal.Gen.facts := fun m g _ =>
  (θ_run _ _ _).mono (fun _ h => ⟨fun c => (h.1 c).2, h.2⟩) (run m g)

theorem kernel_quiescent : @Cert.quiescent_Kernel Cert.Kernel.Gen.facts := by
  intro m g _
  rw [same_defs, same_main]
  exact (θ_run _ _ _).mono (fun _ h => ⟨fun c => (h.1 c).2, h.2⟩) (run (F := Bits) m g)

theorem reference_quiescent : @Cert.quiescent_ReferenceIdeal Cert.ReferenceIdeal.Gen.facts := fun m g _ =>
  (θ_run _ _ _).mono (fun r h => ⟨fun c => (h c).2, sem_eq_zero_of_no_sems rfl r.2⟩) (Cert.ReferenceIdeal.Value.run m g)

end Cert.Proof

end
-- ==== Proof.Reals.lean ====
/-
  The mathematics of the problem over the real numbers: the statistics of the valid rows, the two spellings of the
  variance and of the projection, and the extended reals that are real.
-/
module

public import Idealize.ShloMosaic.Lib.Pointwise
public import Mathlib.Tactic.Linarith
public import Mathlib.Tactic.FieldSimp
public import Mathlib.Tactic.Ring
public import Mathlib.Tactic.Abel

@[expose] public section

noncomputable section

namespace Cert.Proof

open Idealize.ShloMosaic

/-! ## Extended reals that are real -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (h : b ≠ 0) : Ideal.div (a : EReal) (b : EReal) = ((a / b : ℝ) : EReal) := by
  rw [Ideal.div_coe h, ← EReal.coe_mul]
  congr 1
  ring

theorem rsqrt_real (r : ℝ) (h : 0 < r) : Ideal.rsqrt (r : EReal) = (((Real.sqrt r)⁻¹ : ℝ) : EReal) := by
  rw [Ideal.rsqrt_coe, if_neg (not_lt.2 h.le), if_neg h.ne']

theorem max_one (a : ℝ) : max (a : EReal) 1 = ((max a 1 : ℝ) : EReal) := by
  rcases le_total a 1 with h | h
  · rw [max_eq_right h, max_eq_right (by exact_mod_cast h), EReal.coe_one]
  · rw [max_eq_left h, max_eq_left (by exact_mod_cast h)]

/-- The constant added to the variance. -/
theorem eps_real : ∃ e : ℝ, 0 < e ∧ Ideal.ofBits .f32 0x3727C5AC#32 = (e : EReal) := by
  refine ⟨_, ?_, by simp only [Ideal.ofBits, Ideal.ieee]; simp [-EReal.coe_mul]; rfl⟩
  positivity

def eps : ℝ := eps_real.choose
theorem eps_pos : 0 < eps := eps_real.choose_spec.1
theorem ofBits_eps : Ideal.ofBits .f32 0x3727C5AC#32 = (eps : EReal) := eps_real.choose_spec.2

/-- Multiplying by a real distributes over adding a real. -/
theorem add_mul_real (x : EReal) (a w : ℝ) : (x + (a : EReal)) * (w : EReal) = x * (w : EReal) + ((a * w : ℝ) : EReal) := by
  induction x using EReal.rec with
  | coe x => simp only [← EReal.coe_add, ← EReal.coe_mul, add_mul]
  | bot =>
    rw [EReal.bot_add]
    rcases lt_trichotomy w 0 with h | rfl | h
    · rw [EReal.bot_mul_coe_of_neg h, EReal.top_add_coe]
    · simp
    · rw [EReal.bot_mul_coe_of_pos h, EReal.bot_add]
  | top =>
    rw [EReal.top_add_coe]
    rcases lt_trichotomy w 0 with h | rfl | h
    · rw [EReal.top_mul_coe_of_neg h, EReal.bot_add]
    · simp
    · rw [EReal.top_mul_coe_of_pos h, EReal.top_add_coe]

/-! ## Words -/

/-- A small row number against a small length. -/
theorem slt_word (r : ℕ) (hr : r < 4096) (x : BitVec 32) (hx : x.toNat < 4096) :
    IntOp.cmpi .slt (BitVec.ofNat 32 r) x = if r < x.toNat then 1#1 else 0#1 := by
  have h : (BitVec.ofNat 32 r).slt x = decide (r < x.toNat) := by
    rw [BitVec.slt_eq_decide, BitVec.toInt_eq_toNat_of_lt (by rw [BitVec.toNat_ofNat]; omega), BitVec.toInt_eq_toNat_of_lt (by omega),
      BitVec.toNat_ofNat, Nat.mod_eq_of_lt (by omega)]
    exact decide_eq_decide.2 Int.ofNat_lt
  show BitVec.ofBool ((BitVec.ofNat 32 r).slt x) = _
  rw [h]
  by_cases e : r < x.toNat <;> simp [e]

theorem uitofp_one : FloatOps.uitofp (F := Ideal) .f32 1#1 = ((1 : ℝ) : EReal) := by
  show (((1#1).toNat : ℝ) : EReal) = _
  simp

theorem uitofp_zero : FloatOps.uitofp (F := Ideal) .f32 0#1 = ((0 : ℝ) : EReal) := by
  show (((0#1).toNat : ℝ) : EReal) = _
  simp

/-! ## The statistics of the valid rows -/

section Stats

variable (p : Fin 16 → Fin 4096 → Fin 256 → ℝ) (n : Fin 16 → ℕ) (g : Fin 256 → ℝ) (be : Fin 256 → EReal) (w : Fin 64 → Fin 256 → ℝ)
  (b : Fin 64 → EReal)

/-- One on the valid rows, zero on the others. -/
def mk (i : Fin 16) (r : Fin 4096) : ℝ := if r.val < n i then 1 else 0
/-- The sum over the valid rows. -/
def msum (f : Fin 16 → Fin 4096 → ℝ) : ℝ := ∑ i, ∑ r, f i r * mk n i r
/-- The number of valid rows, at least one. -/
def cnt : ℝ := max (∑ i, (n i : ℝ)) 1
def mean (k : Fin 256) : ℝ := msum n (fun i r => p i r k) / cnt n
def var (k : Fin 256) : ℝ := msum n (fun i r => (p i r k - mean p n k) * (p i r k - mean p n k)) / cnt n
def rs (k : Fin 256) : ℝ := (Real.sqrt (var p n k + eps))⁻¹
/-- The projection of a normalised row, or of a zero one. -/
def lin (i : Fin 16) (r : Fin 4096) (o : Fin 64) : EReal :=
  (∑ k, ((((p i r k - mean p n k) * rs p n k * g k : ℝ) : EReal) + be k) * (mk n i r : EReal) * (w o k : EReal)) + b o
/-- A vector divided by its length. -/
def unit (y : Fin 64 → EReal) (o : Fin 64) : EReal := y o * Ideal.rsqrt ((∑ o, y o * y o) + Ideal.ofBits .f32 0x2B8CBCCC#32)

theorem cnt_pos : 0 < cnt n := lt_of_lt_of_le one_pos (le_max_right _ _)

theorem sum_row (k : ℕ) (hk : k ≤ 4096) : (∑ r : Fin 4096, if r.val < k then (1 : ℝ) else 0) = k := by
  rw [Fin.sum_univ_eq_sum_range (fun r => if r < k then (1 : ℝ) else 0), ← Finset.sum_filter]
  rw [show (Finset.range 4096).filter (· < k) = Finset.range k from by ext x; simp; omega]
  simp

theorem sum_mk (hn : ∀ i, n i ≤ 4096) : (∑ i, ∑ r, mk n i r) = ∑ i, (n i : ℝ) :=
  Finset.sum_congr rfl fun i _ => sum_row (n i) (hn i)

theorem msum_add (f f' : Fin 16 → Fin 4096 → ℝ) : msum n (fun i r => f i r + f' i r) = msum n f + msum n f' := by
  simp only [msum, add_mul, Finset.sum_add_distrib]

theorem msum_mul (a : ℝ) (f : Fin 16 → Fin 4096 → ℝ) : msum n (fun i r => a * f i r) = a * msum n f := by
  simp only [msum, mul_assoc, ← Finset.mul_sum]

theorem msum_zero (h : ∀ i, n i = 0) (f : Fin 16 → Fin 4096 → ℝ) : msum n f = 0 := by
  refine Finset.sum_eq_zero fun i _ => Finset.sum_eq_zero fun r _ => ?_
  rw [mk, if_neg (by rw [h i]; exact Nat.not_lt_zero _), mul_zero]

/-- The variance by the mean of the squares is the variance by the squared distances. -/
theorem var_eq (hn : ∀ i, n i ≤ 4096) (k : Fin 256) :
    msum n (fun i r => p i r k * p i r k) / cnt n - mean p n k * mean p n k = var p n k := by
  by_cases h0 : ∀ i, n i = 0
  · simp only [var, mean, msum_zero n h0]; simp
  · have hN : ∑ i, (n i : ℝ) = cnt n := by
      obtain ⟨i, hi⟩ := not_forall.1 h0
      refine (max_eq_left ?_).symm
      calc (1 : ℝ) ≤ (n i : ℝ) := by exact_mod_cast Nat.one_le_iff_ne_zero.2 hi
        _ ≤ ∑ i, (n i : ℝ) := Finset.single_le_sum (f := fun i => (n i : ℝ)) (fun _ _ => Nat.cast_nonneg _) (Finset.mem_univ i)
    have h1 : msum n (fun _ _ => 1) = cnt n := by
      rw [← hN, ← sum_mk n hn]; simp only [msum, one_mul]
    have hc := (cnt_pos n).ne'
    have hm : msum n (fun i r => p i r k) = mean p n k * cnt n := (div_mul_cancel₀ _ hc).symm
    have e : msum n (fun i r => (p i r k - mean p n k) * (p i r k - mean p n k))
        = msum n (fun i r => p i r k * p i r k) + (-2 * mean p n k) * msum n (fun i r => p i r k)
          + (mean p n k * mean p n k) * msum n (fun _ _ => 1) := by
      rw [← msum_mul, ← msum_mul, ← msum_add, ← msum_add]
      congr 1
      funext i r
      ring
    rw [var, e, h1, hm]
    field_simp
    ring

theorem var_nonneg (k : Fin 256) : 0 ≤ var p n k :=
  div_nonneg (Finset.sum_nonneg fun i _ => Finset.sum_nonneg fun r _ =>
    mul_nonneg (mul_self_nonneg _) (by unfold mk; split <;> norm_num)) (cnt_pos n).le

theorem var_eps_pos (k : Fin 256) : 0 < var p n k + eps := add_pos_of_nonneg_of_pos (var_nonneg p n k) eps_pos

/-- On a valid row the projection is the scaled weights' product and the shifted bias. -/
theorem lin_valid (i : Fin 16) (r : Fin 4096) (o : Fin 64) (h : r.val < n i) :
    ((∑ k, w o k * (rs p n k * g k) * p i r k : ℝ) : EReal)
      + (b o + ∑ k, (be k - ((mean p n k * (rs p n k * g k) : ℝ) : EReal)) * (w o k : EReal)) = lin p n g be w b i r o := by
  have e1 : ∀ k, (be k - ((mean p n k * (rs p n k * g k) : ℝ) : EReal)) * (w o k : EReal)
      = be k * (w o k : EReal) + ((-(mean p n k * (rs p n k * g k)) * w o k : ℝ) : EReal) := fun k => by
    rw [sub_eq_add_neg, ← EReal.coe_neg, add_mul_real]
  have e2 : ∀ k, ((((p i r k - mean p n k) * rs p n k * g k : ℝ) : EReal) + be k) * (mk n i r : EReal) * (w o k : EReal)
      = be k * (w o k : EReal) + (((p i r k - mean p n k) * rs p n k * g k * w o k : ℝ) : EReal) := fun k => by
    rw [mk, if_pos h, EReal.coe_one, mul_one, add_comm, add_mul_real]
  have e3 : ((∑ k, w o k * (rs p n k * g k) * p i r k : ℝ) : EReal) + ((∑ k, -(mean p n k * (rs p n k * g k)) * w o k : ℝ) : EReal)
      = ((∑ k, (p i r k - mean p n k) * rs p n k * g k * w o k : ℝ) : EReal) := by
    rw [← EReal.coe_add, ← Finset.sum_add_distrib]
    congr 1
    exact Finset.sum_congr rfl fun k _ => by ring
  rw [lin]
  simp only [e1, e2, Finset.sum_add_distrib, coe_sum]
  rw [← e3]
  abel

/-- On another row it is the bias. -/
theorem lin_other (i : Fin 16) (r : Fin 4096) (h : ¬ r.val < n i) : lin p n g be w b i r = b := by
  funext o
  rw [lin, mk, if_neg h]
  simp

end Stats

end Cert.Proof

end
-- ==== Proof.KernelRead.lean ====
/-
  What the kernel stores, read at an index: each stored value as extended-real arithmetic of what was loaded.
-/
module

public import proofs.«01_k».proof.Proof.State
public import proofs.«01_k».proof.Proof.Reals

@[expose] public section

set_option maxRecDepth 8192

noncomputable section

namespace Cert.Proof

open Cert.KernelIdeal Cert.KernelIdeal.Gen
open Idealize.ShloMosaic

/-! ## Words -/

/-- A stored condition "more than `k`" at a small length. -/
theorem sgt_word (k : ℕ) (hk : k < 4096) (x : BitVec 32) (hx : x.toNat < 4096) :
    Scalar.cmpi .ne (Scalar.extui (Scalar.cmpi .sgt x (BitVec.ofNat 32 k)) : BitVec 32) 0#32 = 1#1 ↔ k < x.toNat := by
  rw [ne_ext]
  have e : Scalar.cmpi .sgt x (BitVec.ofNat 32 k) = IntOp.cmpi .slt (BitVec.ofNat 32 k) x := rfl
  rw [e, slt_word k hk x hx]
  by_cases h : k < x.toNat <;> simp [h]

theorem addi_word (c r : ℕ) : IntOp.addi (BitVec.ofNat 32 c) (BitVec.ofNat 32 r) = BitVec.ofNat 32 (c + r) :=
  (BitVec.ofNat_add c r).symm

/-! ## The stored values -/

theorem pay4_at (w : BitVec 32) (hw : w.toNat < 4096) (r : Fin 4096) :
    k0_pay4 (F := Ideal) w (ix2 0 r) = (((if r.val < w.toNat then 1 else 0 : ℝ)) : EReal) := by
  have e : k0_pay4 (F := Ideal) w (ix2 0 r) = FloatOps.sitofp .bf16 (BitVec.setWidth 32 (IntOp.cmpi .slt (BitVec.ofNat 32 r.val) w)) := by
    clear hw
    pointwise [k0_pay4]
    rfl
  rw [e, slt_word r.val r.isLt w hw]
  split
  · show (((BitVec.setWidth 32 1#1).toInt : ℝ) : EReal) = _
    norm_num
  · show (((BitVec.setWidth 32 0#1).toInt : ℝ) : EReal) = _
    norm_num

theorem pay5_at (w : BitVec 32) (X : Vec Ideal S1x4096x256 .f32) (v : Vec Ideal S1x256 .f32) (k : Fin 256) :
    k0_pay5 (F := Ideal) w X v (ix2 0 k) = v (ix2 0 k) + ∑ x, k0_pay4 (F := Ideal) w (ix2 0 x) * X (ix3 0 x k) := by
  pointwise [k0_pay5, k0_pay2]

theorem pay6_at (w : BitVec 32) (X : Vec Ideal S1x4096x256 .f32) (v : Vec Ideal S1x256 .f32) (k : Fin 256) :
    k0_pay6 (F := Ideal) w X v (ix2 0 k) = v (ix2 0 k) + ∑ x, k0_pay4 (F := Ideal) w (ix2 0 x) * (X (ix3 0 x k) * X (ix3 0 x k)) := by
  pointwise [k0_pay6, k0_pay2]

theorem pay3_at (X : Vec Ideal S1x4096x256 .f32) (r : Fin 4096) (k : Fin 256) :
    k0_pay3 (F := Ideal) X (ix3 0 r k) = X (ix3 0 r k) := by
  pointwise [k0_pay3, k0_pay2]

theorem pay7_0 (v v' : FVec Ideal S1x64 .f32) (v'' : FVec Ideal S1 .f32) (o : Fin 64) :
    k0_pay7 (F := Ideal) v v' v'' (ix2 o 0) = v' (ix2 0 o) := by
  pointwise [k0_pay7]

theorem pay7_1 (v v' : FVec Ideal S1x64 .f32) (v'' : FVec Ideal S1 .f32) (o : Fin 64) :
    k0_pay7 (F := Ideal) v v' v'' (ix2 o 1) = v (ix2 0 o) * Ideal.rsqrt (v'' (ix1 0) + Ideal.ofBits .f32 0x2B8CBCCC#32) := by
  pointwise [k0_pay7]
  rfl

theorem pay17_at (v13 : BitVec 32) (v16 : Vec Ideal S1x256 .f32) (k : Fin 256) :
    k0_pay17 (F := Ideal) v13 v16 (ix2 0 k) = Ideal.div (v16 (ix2 0 k)) (max ((v13.toInt : ℝ) : EReal) 1) := by
  pointwise [k0_pay17, k0_pay16]

theorem pay18_at (v13 : BitVec 32) (v16 v19 : Vec Ideal S1x256 .f32) (v27 : Vec Ideal S256 .f32) (k : Fin 256) :
    k0_pay18 (F := Ideal) v13 v16 v19 v27 (ix2 0 k)
      = Ideal.rsqrt (Ideal.div (v19 (ix2 0 k)) (max ((v13.toInt : ℝ) : EReal) 1)
          - k0_pay17 (F := Ideal) v13 v16 (ix2 0 k) * k0_pay17 (F := Ideal) v13 v16 (ix2 0 k) + Ideal.ofBits .f32 0x3727C5AC#32)
        * v27 (ix1 k) := by
  pointwise [k0_pay18, k0_pay16]

theorem pay19_at (v13 : BitVec 32) (v16 v19 : Vec Ideal S1x256 .f32) (v27 : Vec Ideal S256 .f32) (v34 : Vec Ideal S64x256 .f32)
    (o : Fin 64) (k : Fin 256) :
    k0_pay19 (F := Ideal) v13 v16 v19 v27 v34 (ix2 o k) = v34 (ix2 o k) * k0_pay18 (F := Ideal) v13 v16 v19 v27 (ix2 0 k) := by
  pointwise [k0_pay19]

theorem pay20_at (v41 : Vec Ideal S64 .f32) (o : Fin 64) : k0_pay20 (F := Ideal) v41 (ix2 0 o) = v41 (ix1 o) := by
  pointwise [k0_pay20]

theorem pay21_at (v13 : BitVec 32) (v16 v19 : Vec Ideal S1x256 .f32) (v27 v30 : Vec Ideal S256 .f32) (v41 : Vec Ideal S64 .f32)
    (v43 : Vec Ideal S64x256 .f32) (o : Fin 64) :
    k0_pay21 (F := Ideal) v13 v16 v19 v27 v30 v41 v43 (ix2 0 o)
      = v41 (ix1 o) + ∑ k, (v30 (ix1 k) - k0_pay17 (F := Ideal) v13 v16 (ix2 0 k) * k0_pay18 (F := Ideal) v13 v16 v19 v27 (ix2 0 k)) * v43 (ix2 o k) := by
  pointwise [k0_pay21, k0_pay20]

theorem pay22_at (v41 : Vec Ideal S64 .f32) : k0_pay22 (F := Ideal) v41 (ix1 0) = ∑ o, v41 (ix1 o) * v41 (ix1 o) := by
  pointwise [k0_pay22, k0_pay20]
  exact Fin.sum_univ_one _

section Quarters

variable (w : Elt Ideal .i32) (f2 : Vec Ideal S64x256 .bf16) (x : Vec Ideal S1x1024x256 .bf16) (c0 c1 : Vec Ideal S64x1 .f32)
  (o : Fin 64) (r : Fin 1024)

/-- Row `r` of a quarter's rows projected. -/
def projRow (f2 : Vec Ideal S64x256 .bf16) (x : Vec Ideal S1x1024x256 .bf16) (c0 : Vec Ideal S64x1 .f32) (r : Fin 1024) (o : Fin 64) : EReal :=
  (∑ k, (f2 (ix2 o k) : EReal) * x (ix3 0 r k)) + c0 (ix2 o 0)

/-- What a quarter starting at row `s` stores for its row `r`. -/
def storeRow (s : ℕ) : EReal :=
  Scalar.select (IntOp.cmpi .slt (IntOp.addi (BitVec.ofNat 32 s) (BitVec.ofNat 32 r.val)) w)
    (projRow f2 x c0 r o * Ideal.rsqrt ((∑ o', projRow f2 x c0 r o' * projRow f2 x c0 r o') + Ideal.ofBits .f32 0x2B8CBCCC#32)) (c1 (ix2 o 0))

theorem pay8_at : k0_pay8 (F := Ideal) w f2 x c0 c1 (ix3 0 o r) = storeRow w f2 x c0 c1 o r 0 := by
  pointwise [k0_pay8, storeRow, projRow]
theorem pay10_at : k0_pay10 (F := Ideal) w f2 x c0 c1 (ix3 0 o r) = storeRow w f2 x c0 c1 o r 1024 := by
  pointwise [k0_pay10, storeRow, projRow]
theorem pay12_at : k0_pay12 (F := Ideal) w f2 x c0 c1 (ix3 0 o r) = storeRow w f2 x c0 c1 o r 2048 := by
  pointwise [k0_pay12, storeRow, projRow]
theorem pay14_at : k0_pay14 (F := Ideal) w f2 x c0 c1 (ix3 0 o r) = storeRow w f2 x c0 c1 o r 3072 := by
  pointwise [k0_pay14, storeRow, projRow]

theorem pay9_at : k0_pay9 (F := Ideal) c1 (ix3 0 o r) = c1 (ix2 o 0) := by
  pointwise [k0_pay9]
theorem pay11_at : k0_pay11 (F := Ideal) c1 (ix3 0 o r) = c1 (ix2 o 0) := by
  pointwise [k0_pay11]
theorem pay13_at : k0_pay13 (F := Ideal) c1 (ix3 0 o r) = c1 (ix2 o 0) := by
  pointwise [k0_pay13]
theorem pay15_at : k0_pay15 (F := Ideal) c1 (ix3 0 o r) = c1 (ix2 o 0) := by
  pointwise [k0_pay15]

end Quarters

end Cert.Proof

end
-- ==== Proof.KernelValue.lean ====
/-
  The kernel's result at an index, over the real numbers.
-/
module

public import proofs.«01_k».proof.Proof.KernelRead
public import proofs.«01_k».proof.Proof.Run

@[expose] public section

set_option maxRecDepth 8192

noncomputable section

namespace Cert.Proof

open Cert.KernelIdeal Cert.KernelIdeal.Gen
open Idealize.ShloMosaic Idealize.ShloMosaic.TcCoe

/-- A sequence's number from any number. -/
def wrap (j : ℕ) : Fin 16 := ⟨j % 16, Nat.mod_lt _ (by decide)⟩

theorem wrap_val (i : Fin 16) : wrap i.val = i := Fin.ext (Nat.mod_eq_of_lt i.isLt)

theorem seqIdx_eq (j : ℕ) (r : Fin 4096) (k : Fin 256) : seqIdx j r k = ix3 (wrap j) r k := by
  funext a
  match a with
  | ⟨0, _⟩ => rfl
  | ⟨1, _⟩ => rfl
  | ⟨2, _⟩ => rfl

theorem idx16_eq (j : ℕ) : idx16 j = ix1 (wrap j) := by
  funext a
  match a with
  | ⟨0, _⟩ => rfl

theorem sum_wrap {M : Type} [AddCommMonoid M] (f : Fin 16 → M) : ∑ j ∈ Finset.range 16, f (wrap j) = ∑ i, f i := by
  rw [Finset.sum_range]
  exact Finset.sum_congr rfl fun i _ => congrArg f (wrap_val i)

/-! ## The second phase's reads and stores -/

theorem off5_eq (i : grid0.Coords) (h : k0_cond5 i = 1#1) : k0_off5 i = ![(i 0).val - 16, 0, 0] := by
  funext a; revert i a; decide
theorem off6_eq (i : grid0.Coords) (h : k0_cond5 i = 1#1) : k0_off6 i = ![(i 0).val - 16, 1024, 0] := by
  funext a; revert i a; decide
theorem off7_eq (i : grid0.Coords) (h : k0_cond5 i = 1#1) : k0_off7 i = ![(i 0).val - 16, 2048, 0] := by
  funext a; revert i a; decide
theorem off8_eq (i : grid0.Coords) (h : k0_cond5 i = 1#1) : k0_off8 i = ![(i 0).val - 16, 3072, 0] := by
  funext a; revert i a; decide

theorem pt_val (i : Fin 16) : (pt i.val 0).val - 16 = i.val := by
  show 16 + i.val % 16 - 16 = i.val
  omega

theorem pt_cond (i : Fin 16) : k0_cond5 (pt i.val) = 1#1 := (is_cond5 _).2 (Nat.le_add_right 16 (i.val % 16))

/-- An index of an output block, in the quarter that starts at row `s`. -/
theorem col3_eq (s : ℕ) (hs : ∀ a, (![0, 0, s] : Fin 3 → ℕ) a + S1x64x1024.size a ≤ S1x64x4096.size a) (o : Fin 64) (r : Fin 4096)
    (r' : Fin 1024) (h : r.val = s + r'.val) :
    col3 o r = (Rect.unit (s := S1x64x4096) ![0, 0, s] S1x64x1024.size hs).emb (ix3 0 o r') := by
  funext a; apply Fin.ext
  match a with
  | ⟨0, _⟩ => rfl
  | ⟨1, _⟩ => show o.val = 0 + 1 * o.val; omega
  | ⟨2, _⟩ => show r.val = s + 1 * r'.val; omega

theorem col0_eq (o : Fin 64) : col0.emb (ix2 o 0) = ix2 o 0 := by
  funext a; apply Fin.ext
  match a with
  | ⟨0, _⟩ => show 0 + 1 * o.val = o.val; omega
  | ⟨1, _⟩ => rfl

theorem col1_eq (o : Fin 64) : col1.emb (ix2 o 0) = ix2 o 1 := by
  funext a; apply Fin.ext
  match a with
  | ⟨0, _⟩ => show 0 + 1 * o.val = o.val; omega
  | ⟨1, _⟩ => rfl

/-! ## The accumulator's two rows -/

theorem row01 (z z' : S1x256.Idx) : row0.emb z ≠ row1.emb z' := fun e => by
  have h : 0 + 1 * (z 0).val = 1 + 1 * (z' 0).val := congrArg (fun f => (f 0).val) e
  have : (z 0).val < 1 := (z 0).isLt
  omega

theorem overlay_row1 (f : S8x256.Idx → Elt Ideal .f32) (G : S1x256.Idx → Elt Ideal .f32) (z : S1x256.Idx) :
    row1.overlay f G (row0.emb z) = f (row0.emb z) :=
  Rect.overlay_of_not_mem _ _ _ fun hm => by
    obtain ⟨z', hz'⟩ := Finset.mem_map.1 (Rect.map_emb_univ _ ▸ hm) |>.imp fun _ h => h.2
    exact row01 z z' hz'.symm

theorem overlay_row0 (f : S8x256.Idx → Elt Ideal .f32) (G : S1x256.Idx → Elt Ideal .f32) (z : S1x256.Idx) :
    row0.overlay f G (row1.emb z) = f (row1.emb z) :=
  Rect.overlay_of_not_mem _ _ _ fun hm => by
    obtain ⟨z', hz'⟩ := Finset.mem_map.1 (Rect.map_emb_univ _ ▸ hm) |>.imp fun _ h => h.2
    exact row01 z' z hz'

section Values

variable {A : FVec Ideal S16x4096x256 .f32} {T : S16.Idx → BitVec 32} {gam bet : FVec Ideal S256 .f32}
  {W : FVec Ideal S64x256 .f32} {b : FVec Ideal S64 .f32}
  {p : Fin 16 → Fin 4096 → Fin 256 → ℝ} {n : Fin 16 → ℕ} {g : Fin 256 → ℝ} {be : Fin 256 → EReal} {w : Fin 64 → Fin 256 → ℝ}
  {b' : Fin 64 → EReal}
  (hA : ∀ i r k, A (ix3 i r k) = (p i r k : EReal)) (hT : ∀ i, (T (ix1 i)).toNat = n i) (hn : ∀ i, n i < 4096)
  (hG : ∀ k, gam (ix1 k) = (g k : EReal)) (hB : ∀ k, bet (ix1 k) = be k) (hW : ∀ o k, W (ix2 o k) = (w o k : EReal))
  (hb : ∀ o, b (ix1 o) = b' o)

include hT hn

theorem word_at (j : ℕ) : (T (idx16 j)).toNat = n (wrap j) := by rw [idx16_eq, hT]

theorem word_lt (j : ℕ) : (T (idx16 j)).toNat < 4096 := by rw [word_at hT hn]; exact hn _

theorem mask_at (j : ℕ) (r : Fin 4096) : k0_pay4 (F := Ideal) (T (idx16 j)) (ix2 0 r) = (mk n (wrap j) r : EReal) := by
  rw [pay4_at _ (word_lt hT hn j), word_at hT hn, mk]

/-- The sum of the lengths does not wrap. -/
theorem wsum_at (N : ℕ) (hN : N ≤ 16) : (wsum T N).toNat = ∑ j ∈ Finset.range N, n (wrap j) ∧ (wsum T N).toNat ≤ N * 4095 := by
  induction N with
  | zero => exact ⟨rfl, le_refl _⟩
  | succ N ih =>
    obtain ⟨h1, h2⟩ := ih (by omega)
    have h3 := hn (wrap N)
    have e : (wsum T (N + 1)).toNat = (wsum T N).toNat + n (wrap N) := by
      show (wsum T N + T (idx16 N)).toNat = _
      rw [BitVec.toNat_add, word_at hT hn, Nat.mod_eq_of_lt (by omega)]
    rw [Finset.sum_range_succ, e, h1]
    refine ⟨rfl, ?_⟩
    rw [← h1]
    omega

theorem count_at : max (((wsum T 16).toInt : ℝ) : EReal) 1 = (cnt n : EReal) := by
  obtain ⟨h1, h2⟩ := wsum_at hT hn 16 (le_refl _)
  rw [BitVec.toInt_eq_toNat_of_lt (by omega), h1, sum_wrap n, max_one, cnt]
  push_cast
  rfl

include hA

theorem blk_at (j : ℕ) (r : Fin 4096) (k : Fin 256) : blkX (F := Ideal) A j (ix3 0 r k) = (p (wrap j) r k : EReal) := by
  show A (seqIdx j r k) = _
  rw [seqIdx_eq, hA]

/-- The accumulator's rows hold the sums and the sums of squares over the valid rows. -/
theorem acc_at (N : ℕ) (k : Fin 256) :
    acc (F := Ideal) A T N (row0.emb (ix2 0 k)) = ((∑ j ∈ Finset.range N, ∑ r, p (wrap j) r k * mk n (wrap j) r : ℝ) : EReal) ∧
    acc (F := Ideal) A T N (row1.emb (ix2 0 k)) = ((∑ j ∈ Finset.range N, ∑ r, p (wrap j) r k * p (wrap j) r k * mk n (wrap j) r : ℝ) : EReal) := by
  induction N with
  | zero => exact ⟨Ideal.ofBits_zero_f32, Ideal.ofBits_zero_f32⟩
  | succ N ih =>
    obtain ⟨h1, h2⟩ := ih
    have s1 : ∑ r, k0_pay4 (F := Ideal) (T (idx16 N)) (ix2 0 r) * blkX (F := Ideal) A N (ix3 0 r k)
        = ((∑ r, p (wrap N) r k * mk n (wrap N) r : ℝ) : EReal) := by
      simp only [mask_at hT hn, blk_at hA hT hn, mul_comm (p _ _ _), ← EReal.coe_mul, coe_sum]
    have s2 : ∑ r, k0_pay4 (F := Ideal) (T (idx16 N)) (ix2 0 r) * (blkX (F := Ideal) A N (ix3 0 r k) * blkX (F := Ideal) A N (ix3 0 r k))
        = ((∑ r, p (wrap N) r k * p (wrap N) r k * mk n (wrap N) r : ℝ) : EReal) := by
      simp only [mask_at hT hn, blk_at hA hT hn, mul_comm (p _ _ _ * p _ _ _), ← EReal.coe_mul, coe_sum]
    rw [Finset.sum_range_succ, Finset.sum_range_succ, EReal.coe_add, EReal.coe_add, ← h1, ← h2, ← s1, ← s2]
    show accStep _ _ _ _ = _ ∧ accStep _ _ _ _ = _
    unfold accStep
    by_cases hc : condW (T (idx16 N)) = 1#1
    · rw [if_pos hc, overlay_row1, Rect.overlay_emb, Rect.overlay_emb, pay5_at, pay6_at, overlay_row0]
      exact ⟨rfl, rfl⟩
    · have h0 : n (wrap N) = 0 := by
        have := mt (sgt_word 0 (by decide) _ (word_lt hT hn N)).2 hc
        rw [word_at hT hn] at this
        omega
      have hz : ∀ r, mk n (wrap N) r = 0 := fun r => by rw [mk, h0, if_neg (Nat.not_lt_zero _)]
      rw [if_neg hc, s1, s2]
      simp only [hz, mul_zero, Finset.sum_const_zero, EReal.coe_zero, add_zero]
      exact ⟨trivial, trivial⟩

theorem sums_at (k : Fin 256) :
    acc (F := Ideal) A T 16 (row0.emb (ix2 0 k)) = (msum n (fun i r => p i r k) : EReal) ∧
    acc (F := Ideal) A T 16 (row1.emb (ix2 0 k)) = (msum n (fun i r => p i r k * p i r k) : EReal) := by
  obtain ⟨h1, h2⟩ := acc_at hA hT hn 16 k
  rw [h1, h2, sum_wrap (fun i => ∑ r, p i r k * mk n i r), sum_wrap (fun i => ∑ r, p i r k * p i r k * mk n i r)]
  exact ⟨rfl, rfl⟩

/-- The mean, as the first phase computes it. -/
theorem mean_at (k : Fin 256) :
    k0_pay17 (F := Ideal) (wsum T 16) (fun x => acc (F := Ideal) A T 16 (row0.emb x)) (ix2 0 k) = (mean p n k : EReal) := by
  rw [pay17_at, count_at hT hn, (sums_at hA hT hn k).1]
  exact div_real _ _ (cnt_pos n).ne'

include hG

/-- The scale, as the first phase computes it. -/
theorem scale_at (k : Fin 256) :
    k0_pay18 (F := Ideal) (wsum T 16) (fun x => acc (F := Ideal) A T 16 (row0.emb x)) (fun x => acc (F := Ideal) A T 16 (row1.emb x)) gam (ix2 0 k)
      = ((rs p n k * g k : ℝ) : EReal) := by
  rw [pay18_at, mean_at hA hT hn, count_at hT hn, (sums_at hA hT hn k).2, div_real _ _ (cnt_pos n).ne', ofBits_eps, hG, ← EReal.coe_mul,
    ← EReal.coe_sub, ← EReal.coe_add, var_eq p n (fun i => (hn i).le), rsqrt_real _ (var_eps_pos p n k), ← EReal.coe_mul, rs]

include hW

theorem w2_at (o : Fin 64) (k : Fin 256) : w2 (F := Ideal) A T gam W (ix2 o k) = ((w o k * (rs p n k * g k) : ℝ) : EReal) := by
  unfold w2
  rw [pay19_at, scale_at hA hT hn hG, hW, ← EReal.coe_mul]

include hB hb

/-- The bias column. -/
theorem aux0_at (o : Fin 64) :
    aux (F := Ideal) A T gam bet W b (ix2 o 0) = b' o + ∑ k, (be k - ((mean p n k * (rs p n k * g k) : ℝ) : EReal)) * (w o k : EReal) := by
  unfold aux
  rw [pay7_0, pay21_at]
  simp only [mean_at hA hT hn, scale_at hA hT hn hG, hB, hb, hW, ← EReal.coe_mul]

omit hA hT hn hG hB hW in
/-- The column of a row that is not valid. -/
theorem aux1_at (o : Fin 64) : aux (F := Ideal) A T gam bet W b (ix2 o 1) = unit b' o := by
  unfold aux
  rw [pay7_1, pay20_at, pay22_at]
  simp only [hb]
  rfl

/-! ## A quarter of an output block -/

omit hT hn hG hB hW hb in
/-- What a quarter of sequence `i` that starts at row `s` reads of the payload's copy. -/
theorem read_at (i : Fin 16) (s : ℕ) (off : Fin 3 → ℕ) (e : off = ![i.val, s, 0])
    (inb : ∀ a, off a + S1x1024x256.size a ≤ S16x4096x256.size a) (R : Fin 4096) (r : Fin 1024) (hR : R.val = s + r.val) (k : Fin 256) :
    xbuf (F := Ideal) A ((Rect.unit (s := S16x4096x256) off S1x1024x256.size inb).emb (ix3 0 r k)) = (p i R k : EReal) := by
  subst e
  have q : (Rect.unit (s := S16x4096x256) ![i.val, s, 0] S1x1024x256.size inb).emb (ix3 0 r k) = ix3 i R k := by
    funext a; apply Fin.ext
    match a with
    | ⟨0, _⟩ => show i.val + 1 * 0 = i.val; omega
    | ⟨1, _⟩ => show s + 1 * r.val = R.val; omega
    | ⟨2, _⟩ => show 0 + 1 * k.val = k.val; omega
  have q' : row3 R k = ix3 0 R k := by
    funext a
    match a with
    | ⟨0, _⟩ => rfl
    | ⟨1, _⟩ => rfl
    | ⟨2, _⟩ => rfl
  rw [q]
  show k0_pay3 (F := Ideal) (blkX (F := Ideal) A i.val) (row3 R k) = _
  rw [q', pay3_at]
  show A (seqIdx i.val R k) = _
  rw [seqIdx_eq, wrap_val, hA]

omit hA hT hn hG hB hW in
/-- The stored column of a row that is not valid. -/
theorem other_at (i : Fin 16) (R : Fin 4096) (h : ¬ R.val < n i) (o : Fin 64) :
    aux (F := Ideal) A T gam bet W b (col1.emb (ix2 o 0)) = unit (lin p n g be w b' i R) o := by
  rw [col1_eq, aux1_at hb, lin_other p n g be w b' i R h]

/-- What a quarter stores for one of its rows. -/
theorem store_at (i : Fin 16) (s : ℕ) (x : Vec Ideal S1x1024x256 .bf16) (v : BitVec 32) (hv : v.toNat = n i) (R : Fin 4096) (r : Fin 1024)
    (hR : R.val = s + r.val) (hx : ∀ k, x (ix3 0 r k) = (p i R k : EReal)) (o : Fin 64) :
    storeRow v (w2 (F := Ideal) A T gam W) x (fun y => aux (F := Ideal) A T gam bet W b (col0.emb y))
      (fun y => aux (F := Ideal) A T gam bet W b (col1.emb y)) o r s = unit (lin p n g be w b' i R) o := by
  unfold storeRow
  rw [addi_word, ← hR, slt_word R.val R.isLt v (by rw [hv]; exact hn i), hv]
  by_cases h : R.val < n i
  · have q : ∀ o, projRow (w2 (F := Ideal) A T gam W) x (fun y => aux (F := Ideal) A T gam bet W b (col0.emb y)) r o
        = lin p n g be w b' i R o := fun o => by
      unfold projRow
      simp only [col0_eq, w2_at hA hT hn hG hW, aux0_at hA hT hn hG hB hW hb, hx, ← EReal.coe_mul, coe_sum]
      rw [lin_valid p n g be w b' i R o h]
    simp only [q]
    rw [if_pos h]
    rfl
  · rw [if_neg h]
    exact other_at hb i R h o

/-- The block of output columns of sequence `i`. -/
theorem block_at (i : Fin 16) (f : S1x64x4096.Idx → Elt Ideal .f32) (o : Fin 64) (R : Fin 4096) :
    outBlk (F := Ideal) A T gam bet W b (pt i.val) f (col3 o R) = unit (lin p n g be w b' i R) o := by
  have hc := pt_cond i
  have hv : (T (idx16 ((pt i.val 0).val - 16))).toNat = n i := by rw [pt_val, word_at hT hn, wrap_val]
  have hw : (T (idx16 ((pt i.val 0).val - 16))).toNat < 4096 := by rw [hv]; exact hn i
  have hRlt := R.isLt
  have base : ∀ s : ℕ, s ≤ R.val → R.val < s + 1024 → ∃ r : Fin 1024, R.val = s + r.val :=
    fun s h h' => ⟨⟨R.val - s, by omega⟩, by show R.val = s + (R.val - s); omega⟩
  unfold outBlk
  rw [dif_pos hc]
  rcases Nat.lt_or_ge R.val 1024 with h1 | h1
  · obtain ⟨r, hr⟩ := base 0 (Nat.zero_le _) (by omega)
    rw [col3_eq 0 inb_S1x64x4096_S1x64x1024_0_0_0 o R r hr, out2_0, quarter0]
    split
    · rw [pay8_at]
      exact store_at hA hT hn hG hB hW hb i 0 _ _ hv R r hr (fun k => read_at hA i 0 _ ((off5_eq _ hc).trans (by rw [pt_val])) _ R r hr k) o
    · rename_i h
      rw [pay9_at]
      exact other_at hb i R (fun h' => h ((sgt_word 0 (by decide) _ hw).2 (by omega))) o
  rcases Nat.lt_or_ge R.val 2048 with h2 | h2
  · obtain ⟨r, hr⟩ := base 1024 h1 (by omega)
    rw [col3_eq 1024 inb_S1x64x4096_S1x64x1024_0_0_1024 o R r hr, out2_1, quarter1]
    split
    · rw [pay10_at]
      exact store_at hA hT hn hG hB hW hb i 1024 _ _ hv R r hr (fun k => read_at hA i 1024 _ ((off6_eq _ hc).trans (by rw [pt_val])) _ R r hr k) o
    · rename_i h
      rw [pay11_at]
      exact other_at hb i R (fun h' => h ((sgt_word 1024 (by decide) _ hw).2 (by omega))) o
  rcases Nat.lt_or_ge R.val 3072 with h3 | h3
  · obtain ⟨r, hr⟩ := base 2048 h2 (by omega)
    rw [col3_eq 2048 inb_S1x64x4096_S1x64x1024_0_0_2048 o R r hr, out2_2, quarter2]
    split
    · rw [pay12_at]
      exact store_at hA hT hn hG hB hW hb i 2048 _ _ hv R r hr (fun k => read_at hA i 2048 _ ((off7_eq _ hc).trans (by rw [pt_val])) _ R r hr k) o
    · rename_i h
      rw [pay13_at]
      exact other_at hb i R (fun h' => h ((sgt_word 2048 (by decide) _ hw).2 (by omega))) o
  · obtain ⟨r, hr⟩ := base 3072 h3 (by omega)
    rw [col3_eq 3072 inb_S1x64x4096_S1x64x1024_0_0_3072 o R r hr, out2_3, quarter3]
    split
    · rw [pay14_at]
      exact store_at hA hT hn hG hB hW hb i 3072 _ _ hv R r hr (fun k => read_at hA i 3072 _ ((off8_eq _ hc).trans (by rw [pt_val])) _ R r hr k) o
    · rename_i h
      rw [pay15_at]
      exact other_at hb i R (fun h' => h ((sgt_word 3072 (by decide) _ hw).2 (by omega))) o

end Values

end Cert.Proof

end
-- ==== Proof.RefValue.lean ====
/-
  The reference's result at an index, over the real numbers: its operations one stage at a time.
-/
module

public import proofs.«01_k».proof.Proof.Reals
public import proofs.«01_k».proof.Proof.Gen.ReferenceIdeal
public import proofs.«01_k».proof.Proof.Gen.ReferenceIdeal.Run

@[expose] public section

set_option maxRecDepth 8192

noncomputable section

namespace Cert.Proof.Ref

open Cert.ReferenceIdeal Cert.ReferenceIdeal.Gen
open Idealize.ShloMosaic Idealize.ShloMosaic.TcCoe

/-! ### Sums over the first two axes -/

/-- The sum of a whole array of two axes. -/
theorem sum_all {n0 n1 : Nat} {s u : Shape} {x : FVec Ideal ⟨2, ![n0, n1]⟩ .f32} {v : u.Idx → Ideal .f32} {axes : List (Fin 2)}
    (h : (⟨2, ![n0, n1]⟩ : Shape).ReducesTo axes s) (hu : 0 < u.numel) (hv : ∀ y, v y = (0 : EReal)) (hs : s.rank = 0) (j : s.Idx) :
    Host.reduceAdd x v h hu j = ∑ i : Fin n0, ∑ r : Fin n1, x (ix2 i r) := by
  rw [ValueIdx.hostReduceAdd_apply, hv, Ideal.hostReduceAdd_total h (fun a => absurd a.isLt (by omega)), zero_add]
  exact sum_idx2 x

/-- The sum over the first two of three axes. -/
theorem sum_planes {n0 n1 n2 : Nat} {u : Shape} {x : FVec Ideal ⟨3, ![n0, n1, n2]⟩ .f32} {v : u.Idx → Ideal .f32}
    (h : (⟨3, ![n0, n1, n2]⟩ : Shape).ReducesTo [0, 1] ⟨1, ![n2]⟩) (hu : 0 < u.numel) (hv : ∀ y, v y = (0 : EReal)) (k : Fin n2) :
    Host.reduceAdd x v h hu (ix1 k) = ∑ i : Fin n0, ∑ r : Fin n1, x (ix3 i r k) := by
  rw [ValueIdx.hostReduceAdd_apply, hv]
  unfold Ideal.hostReduceAdd
  rw [zero_add, ← Fintype.sum_prod_type' (f := fun (i : Fin n0) (r : Fin n1) => x (ix3 i r k))]
  refine Finset.sum_filter_eq_sum_of_fiber _ (fun q : Fin n0 × Fin n1 => ix3 q.1 q.2 k)
    (fun a a' e => Prod.ext (congrFun e 0) (congrFun e 1)) (fun i => ⟨fun e => ⟨(i 0, i 1), ?_⟩, ?_⟩) x
  · funext a; apply Fin.ext
    match a with
    | ⟨0, _⟩ => rfl
    | ⟨1, _⟩ => rfl
    | ⟨2, _⟩ => exact (congrArg Fin.val (congrFun e ⟨0, Nat.one_pos⟩)).symm
  · rintro ⟨q, rfl⟩
    funext a
    apply Fin.ext
    match a with
    | ⟨0, _⟩ => rfl

/-! ### The small stages, over any operands -/

theorem max_at (z : FVec Ideal S_ .f32) (j : S_.Idx) : maximumf z (constant S_ .f32 0x3F800000#32) j = max (z j) 1 := by
  pointwise

theorem div_at (z : FVec Ideal S256 .f32) (z' : FVec Ideal S_ .f32) (k : Fin 256) :
    Host.divf z (broadcastInDim S256 ![] bcast_S_S256 z') (ix1 k) = Ideal.div (z (ix1 k)) (z' ix0) := by
  pointwise

theorem rsqrt_at (z : FVec Ideal S256 .f32) (k : Fin 256) :
    Host.rsqrt (addf z (broadcastInDim S256 ![] bcast_S_S256 (constant S_ .f32 0x3727C5AC#32))) (ix1 k)
      = Ideal.rsqrt (z (ix1 k) + Ideal.ofBits .f32 0x3727C5AC#32) := by
  pointwise

theorem mul_at (z z' : FVec Ideal S16x4096x256 .f32) (y : S16x4096x256.Idx) : mulf z z' y = z y * z' y := by
  pointwise

section Stages

variable (A : FVec Ideal S16x4096x256 .f32) (T : IVec S16 32) (G B : FVec Ideal S256 .f32)
  (W : FVec Ideal S64x256 .f32) (b : FVec Ideal S64 .f32)

/-- One at the valid rows. -/
def mask : FVec Ideal S16x4096 .f32 :=
  uitofp .f32 (cmpi .slt (broadcastInDim S16x4096 ![0, 1] bcast_S1x4096_S16x4096_0_1 (broadcastInDim S1x4096 ![1] bcast_S4096_S1x4096_1 (iotaInDim S4096 32 0)))
    (broadcastInDim S16x4096 ![0, 1] bcast_S16x1_S16x4096_0_1 (broadcastInDim S16x1 ![0] bcast_S16_S16x1_0 T)))

def mask3 : FVec Ideal S16x4096x256 .f32 :=
  broadcastInDim S16x4096x256 ![0, 1, 2] bcast_S16x4096x1_S16x4096x256_0_1_2 (broadcastInDim S16x4096x1 ![0, 1] bcast_S16x4096_S16x4096x1_0_1 (mask T))

/-- A row repeated over the payload. -/
def rows (v : FVec Ideal S256 .f32) : FVec Ideal S16x4096x256 .f32 :=
  broadcastInDim S16x4096x256 ![0, 1, 2] bcast_S1x1x256_S16x4096x256_0_1_2 (broadcastInDim S1x1x256 ![2] bcast_S256_S1x1x256_2 v)

/-- The number of valid rows, at least one. -/
def count : FVec Ideal S_ .f32 :=
  maximumf (Host.reduceAdd (mask T) (constant S_ .f32 0x00000000#32) reducesTo_S16x4096_S_d0_1 h_S_) (constant S_ .f32 0x3F800000#32)

/-- The mean of an array over the valid rows. -/
def avg (X : FVec Ideal S16x4096x256 .f32) : FVec Ideal S256 .f32 :=
  Host.divf (Host.reduceAdd (mulf X (mask3 T)) (constant S_ .f32 0x00000000#32) reducesTo_S16x4096x256_S256_d0_1 h_S_)
    (broadcastInDim S256 ![] bcast_S_S256 (count T))

/-- The payload less its mean. -/
def cen : FVec Ideal S16x4096x256 .f32 := subf A (rows (avg T A))

def inv : FVec Ideal S256 .f32 :=
  Host.rsqrt (addf (avg T (mulf (cen A T) (cen A T))) (broadcastInDim S256 ![] bcast_S_S256 (constant S_ .f32 0x3727C5AC#32)))

/-- The normalised rows, zero where a row is not valid. -/
def normed : FVec Ideal S16x4096x256 .f32 :=
  mulf (addf (mulf (mulf (cen A T) (rows (inv A T))) (rows G)) (rows B)) (mask3 T)

def proj : FVec Ideal S16x4096x64 .f32 :=
  addf (Host.dotGeneral dot_S16x4096x256_S256x64_S16x4096x64_2_0_01_1_n_n none (normed A T G B) (transpose S256x64 [1, 0] W transposes_S64x256_S256x64_1_0))
    (broadcastInDim S16x4096x64 ![0, 1, 2] bcast_S1x1x64_S16x4096x64_0_1_2 (broadcastInDim S1x1x64 ![2] bcast_S64_S1x1x64_2 b))

/-- A row divided by its length. -/
def unitRows (Y : FVec Ideal S16x4096x64 .f32) : FVec Ideal S16x4096x64 .f32 :=
  mulf Y (broadcastInDim S16x4096x64 ![0, 1, 2] bcast_S16x4096x1_S16x4096x64_0_1_2
    (Host.rsqrt (addf (broadcastInDim S16x4096x1 ![0, 1] bcast_S16x4096_S16x4096x1_0_1
        (Host.reduceAdd (mulf Y Y) (constant S_ .f32 0x00000000#32) reducesTo_S16x4096x64_S16x4096_d2 h_S_))
      (broadcastInDim S16x4096x1 ![] bcast_S_S16x4096x1 (constant S_ .f32 0x2B8CBCCC#32)))))

theorem res_eq (m : (ℓ : Loc nD τ sig) → Buf (Elt Ideal) ℓ) (c : Dev nD) :
    Value.res_main_v53 m c = unitRows (proj (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) := by
  unfold Value.res_main_v53
  rfl

variable {A T G B W b} {p : Fin 16 → Fin 4096 → Fin 256 → ℝ} {n : Fin 16 → ℕ} {g : Fin 256 → ℝ} {be : Fin 256 → EReal} {w : Fin 64 → Fin 256 → ℝ} {b' : Fin 64 → EReal}
  (hA : ∀ i r k, A (ix3 i r k) = (p i r k : EReal)) (hT : ∀ i, (T (ix1 i)).toNat = n i) (hn : ∀ i, n i < 4096)
  (hG : ∀ k, G (ix1 k) = (g k : EReal)) (hB : ∀ k, B (ix1 k) = be k) (hW : ∀ o k, W (ix2 o k) = (w o k : EReal))
  (hb : ∀ o, b (ix1 o) = b' o)

include hT hn

theorem mask_at (i : Fin 16) (r : Fin 4096) : mask T (ix2 i r) = (mk n i r : EReal) := by
  pointwise [mask]
  rw [slt_word r.val r.isLt _ (by rw [hT]; exact hn i), hT i]
  unfold mk
  split
  · exact uitofp_one
  · exact uitofp_zero

theorem sum_mask (j : S_.Idx) : Host.reduceAdd (mask T) (constant S_ .f32 0x00000000#32) reducesTo_S16x4096_S_d0_1 h_S_ j
    = ((∑ i, (n i : ℝ) : ℝ) : EReal) := by
  refine (sum_all (x := mask T) (v := constant S_ .f32 0x00000000#32) reducesTo_S16x4096_S_d0_1 h_S_ (fun _ => Ideal.ofBits_zero_f32) rfl j).trans ?_
  simp only [mask_at hT hn, coe_sum]
  rw [sum_mk n fun i => (hn i).le]

theorem count_at (j : S_.Idx) : count T j = (cnt n : EReal) := by
  unfold count cnt
  rw [max_at, sum_mask hT hn, max_one]

theorem mask3_at (i : Fin 16) (r : Fin 4096) (k : Fin 256) : mask3 T (ix3 i r k) = (mk n i r : EReal) := by
  have e := mask_at hT hn i r
  unfold mask3
  generalize mask T = z at e ⊢
  pointwise
  exact e

theorem avg_at (X : FVec Ideal S16x4096x256 .f32) (f : Fin 16 → Fin 4096 → Fin 256 → ℝ) (hX : ∀ i r k, X (ix3 i r k) = (f i r k : EReal))
    (k : Fin 256) : avg T X (ix1 k) = ((msum n (fun i r => f i r k) / cnt n : ℝ) : EReal) := by
  have e : Host.reduceAdd (mulf X (mask3 T)) (constant S_ .f32 0x00000000#32) reducesTo_S16x4096x256_S256_d0_1 h_S_ (ix1 k)
      = (msum n (fun i r => f i r k) : EReal) := by
    refine (sum_planes (x := mulf X (mask3 T)) (v := constant S_ .f32 0x00000000#32) reducesTo_S16x4096x256_S256_d0_1 h_S_ (fun _ => Ideal.ofBits_zero_f32) k).trans ?_
    simp only [mul_at, hX, mask3_at hT hn, ← EReal.coe_mul, coe_sum, msum]
  unfold avg
  rw [div_at, e, count_at hT hn]
  exact div_real _ _ (cnt_pos n).ne'

include hA

theorem cen_at (i : Fin 16) (r : Fin 4096) (k : Fin 256) : cen A T (ix3 i r k) = ((p i r k - mean p n k : ℝ) : EReal) := by
  pointwise [cen, rows]
  rw [avg_at hT hn A p hA k, hA, ← EReal.coe_sub]
  rfl

theorem inv_at (k : Fin 256) : inv A T (ix1 k) = (rs p n k : EReal) := by
  unfold inv
  rw [rsqrt_at, avg_at hT hn _ (fun i r k => (p i r k - mean p n k) * (p i r k - mean p n k)) (fun i r k => by
    rw [mul_at, cen_at hA hT hn, EReal.coe_mul]) k, ofBits_eps, ← EReal.coe_add]
  exact rsqrt_real _ (var_eps_pos p n k)

include hG hB

theorem normed_at (i : Fin 16) (r : Fin 4096) (k : Fin 256) :
    normed A T G B (ix3 i r k) = ((((p i r k - mean p n k) * rs p n k * g k : ℝ) : EReal) + be k) * (mk n i r : EReal) := by
  pointwise [normed, mask3, rows]
  rw [cen_at hA hT hn, inv_at hA hT hn, hG, hB, mask_at hT hn]
  simp only [← EReal.coe_mul]

include hW hb

theorem proj_at (i : Fin 16) (r : Fin 4096) (o : Fin 64) : proj A T G B W b (ix3 i r o) = lin p n g be w b' i r o := by
  pointwise [proj]
  simp only [normed_at hA hT hn hG hB, hW, hb]
  rfl

/-- The reference's result at an index. -/
theorem result_at (i : Fin 16) (r : Fin 4096) (o : Fin 64) :
    unitRows (proj A T G B W b) (ix3 i r o) = unit (lin p n g be w b' i r) o := by
  pointwise [unitRows]
  simp only [proj_at hA hT hn hG hB hW hb]
  rfl

end Stages

end Cert.Proof.Ref

end
-- ==== Proof.Agree.lean ====
/-
  The kernel's result is the reference's, for finite operands and lengths in range.
-/
module

public import proofs.«01_k».proof.Proof.KernelValue
public import proofs.«01_k».proof.Proof.RefValue
public import proofs.«01_k».proof.Proof.Gen.Pre_finite_in_range

@[expose] public section

set_option maxRecDepth 8192

noncomputable section

namespace Cert.Proof

open Idealize.ShloMosaic Idealize.ShloMosaic.TcCoe Idealize.SL.Sem

/-! ## What the precondition says -/

theorem one_of_ofBool {q : Bool} (h : BitVec.ofBool q = 1#1) : q = true := by
  revert h; cases q <;> decide

/-- An extended real of finite size is real. -/
theorem real_of_abs_lt (x : EReal) (h : max x (-x) < ⊤) : ((x.toReal : ℝ) : EReal) = x := by
  refine EReal.coe_toReal ?_ ?_
  · rintro rfl; simp at h
  · rintro rfl; simp at h

theorem ofBits_inf : Ideal.ofBits .f32 0x7F800000#32 = ⊤ := by simp [Ideal.ofBits, Ideal.ieee]

theorem finite_at {s : Shape} (x y : FVec Ideal s .f32) (hy : ∀ i, y i = Ideal.ofBits .f32 0x7F800000#32)
    (h : cmpf .olt (Host.absf x) y = fun _ => 1#1) (i : s.Idx) : x i = (((x i : EReal).toReal : ℝ) : EReal) := by
  have e : Ideal.cmp .olt (max (x i) (-(x i))) (y i) = 1#1 := congrFun h i
  rw [hy i, ofBits_inf] at e
  exact (real_of_abs_lt _ (of_decide_eq_true (one_of_ofBool e))).symm

theorem length_at (x : BitVec 32) (h : IntOp.andi (IntOp.cmpi .sge x 0#32) (IntOp.cmpi .slt x 4096#32) = 1#1) : x.toNat < 4096 := by
  have key : ∀ q q' : Bool, BitVec.ofBool q &&& BitVec.ofBool q' = 1#1 → q = true ∧ q' = true := by decide
  obtain ⟨h1, h2⟩ := key ((0#32).sle x) (x.slt 4096#32) h
  rw [BitVec.sle_eq_decide] at h1
  rw [BitVec.slt_eq_decide] at h2
  have h1' := of_decide_eq_true h1
  have h2' := of_decide_eq_true h2
  have e0 : (0#32).toInt = 0 := by decide
  have e1 : (4096#32).toInt = 4096 := by decide
  rw [e0] at h1'
  rw [e1] at h2'
  rw [BitVec.toInt_eq_toNat_cond] at h1' h2'
  have := x.isLt
  split at h1' <;> omega

/-! ## The two results -/

section

variable (m : (ℓ : Loc Cert.KernelIdeal.nD Cert.KernelIdeal.τ Cert.KernelIdeal.sig) → Buf (Elt Ideal) ℓ) (c : Dev Cert.KernelIdeal.nD)

theorem result_at (i : Fin 16) (r : Fin 4096) (o : Fin 64) :
    result (F := Ideal) m c (ix3 i r o)
      = outBlk (F := Ideal) (aPay m c) (aSeq m c) (aGam m c) (aBet m c) (aW m c) (aB m c) (pt i.val) (fun _ => FloatOps.ofBits (F := Ideal) .f32 0#32) (col3 o r) := by
  unfold result
  have e : ∀ z : FVec Ideal Cert.KernelIdeal.S16x64x4096 .f32,
      transpose Cert.KernelIdeal.S16x4096x64 [0, 2, 1] z Cert.KernelIdeal.Gen.transposes_S16x64x4096_S16x4096x64_0_2_1 (ix3 i r o) = z (ix3 i o r) := fun z => by
    pointwise
  exact e _

/-- The kernel's result is the reference's, of the same arrays. -/
theorem results_eq (hpre : Cert.Pre_KernelIdeal_finite_in_range m) :
    result (F := Ideal) m c = Ref.unitRows (Ref.proj (aPay m c) (aSeq m c) (aGam m c) (aBet m c) (aW m c) (aB m c)) := by
  obtain ⟨h0, h1, h2, h4⟩ := hpre c
  have hA := finite_at (aPay m c) _ (fun _ => rfl) h0
  have hn : ∀ i : Fin 16, ((aSeq m c) (ix1 i)).toNat < 4096 := fun i => length_at _ (congrFun h1 (ix1 i))
  have hG := finite_at (aGam m c) _ (fun _ => rfl) h2
  have hW := finite_at (aW m c) _ (fun _ => rfl) h4
  have key : ∀ (i : Fin 16) (r : Fin 4096) (o : Fin 64), result (F := Ideal) m c (ix3 i r o)
      = Ref.unitRows (Ref.proj (aPay m c) (aSeq m c) (aGam m c) (aBet m c) (aW m c) (aB m c)) (ix3 i r o) := fun i r o => by
    rw [result_at, block_at (fun i r k => hA (ix3 i r k)) (fun i => rfl) hn (fun k => hG (ix1 k)) (fun k => rfl)
      (fun o k => hW (ix2 o k)) (fun o => rfl)]
    exact (Ref.result_at (fun i r k => hA (ix3 i r k)) (fun i => rfl) hn (fun k => hG (ix1 k)) (fun k => rfl)
      (fun o k => hW (ix2 o k)) (fun o => rfl) i r o).symm
  funext y
  rw [← ix3_eta y]
  exact key (y 0) (y 1) (y 2)

end

/-- From memories that agree on the arguments both run, and end with equal results. -/
theorem ideal_algebraic : @Cert.algebraic_KernelIdeal_ReferenceIdeal_pre_finite_in_range Cert.KernelIdeal.Gen.facts
    Cert.ReferenceIdeal.Gen.facts Cert.Pre_finite_in_range.Gen.facts := by
  intro m g m' g' hpre hagree
  refine ⟨fun c => result (F := Ideal) m c, (θ_run _ _ _).mono (fun _ h c => h.1 c) (run m g),
    (θ_run _ _ _).mono (fun _ h c => ⟨(h c).1.trans ?_, (h c).2⟩) (Cert.ReferenceIdeal.Value.run m' g')⟩
  obtain ⟨e0, e1, e2, e3, e4, e5⟩ := hagree c
  rw [Ref.res_eq m' c, e0, e1, e2, e3, e4, e5]
  exact (results_eq m c hpre).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_in_range
public import proofs.«01_k».proof.Proof.Frames
public import proofs.«01_k».proof.Proof.Agree

@[expose] public section

noncomputable section

namespace Cert.Proof

theorem claim : Cert.Claim := ⟨Cert.Kernel.Gen.facts, Cert.KernelIdeal.Gen.facts, Cert.ReferenceIdeal.Gen.facts,
  Cert.Pre_finite_in_range.Gen.facts, kernel_quiescent, ideal_quiescent, fun m g _ => ideal_quiescent m g trivial, reference_quiescent,
  fun m g _ => reference_quiescent m g trivial, trivial, ideal_algebraic⟩

end Cert.Proof

end
